-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fixed_indices [hPre_fixed_indices : Cert.Pre_fixed_indices.Facts] (m : (ℓ : Loc Cert.KernelIdeal.nD Cert.KernelIdeal.τ Cert.KernelIdeal.sig) → Buf (Elt Ideal) ℓ) : Prop :=
  ∀ c : Dev Cert.KernelIdeal.nD,
    (Cert.Pre_fixed_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fixed_indices [hPre_fixed_indices : Cert.Pre_fixed_indices.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fixed_indices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_fixed_indices [hKernelIdeal : Cert.KernelIdeal.Facts] [hPre_fixed_indices : Cert.Pre_fixed_indices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fixed_indices m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fixed_indices [hReferenceIdeal : Cert.ReferenceIdeal.Facts] [hPre_fixed_indices : Cert.Pre_fixed_indices.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fixed_indices m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_fixed_indices [hKernelIdeal : Cert.KernelIdeal.Facts] [hReferenceIdeal : Cert.ReferenceIdeal.Facts] [hPre_fixed_indices : Cert.Pre_fixed_indices.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fixed_indices m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_fixed_indices : Cert.Pre_fixed_indices.Facts),
    quiescent_Kernel (hKernel := hKernel)
    ∧ quiescent_KernelIdeal (hKernelIdeal := hKernelIdeal)
    ∧ quiescent_KernelIdeal_pre_fixed_indices (hKernelIdeal := hKernelIdeal) (hPre_fixed_indices := hPre_fixed_indices)
    ∧ quiescent_ReferenceIdeal (hReferenceIdeal := hReferenceIdeal)
    ∧ quiescent_ReferenceIdeal_pre_fixed_indices (hReferenceIdeal := hReferenceIdeal) (hPre_fixed_indices := hPre_fixed_indices)
    ∧ preserves_Kernel_KernelIdeal
    ∧ algebraic_KernelIdeal_ReferenceIdeal_pre_fixed_indices (hKernelIdeal := hKernelIdeal) (hReferenceIdeal := hReferenceIdeal) (hPre_fixed_indices := hPre_fixed_indices)
-- ==== Pre_fixed_indices.lean ====
abbrev S4x4x523264 : Shape := ⟨3, ![4, 4, 523264]⟩
abbrev S4x1044484 : Shape := ⟨2, ![4, 1044484]⟩
abbrev S4 : Shape := ⟨1, ![4]⟩
abbrev S1044484 : Shape := ⟨1, ![1044484]⟩
abbrev S_ : Shape := ⟨0, ![]⟩

class Facts : Prop where
  bcast_S_S1044484 : S_.BroadcastsInDim S1044484 (![] : Fin 0 → Fin S1044484.rank)
  reducesTo_S1044484_S_d0 : S1044484.ReducesTo [0] S_
  h_S_ : 0 < S_.numel

variable [Facts]

def fn_where {F : FTy → Type} [FloatOps F] (arg0 : IVec S1044484 1) (arg1 : IVec S1044484 32) (arg2 : IVec S1044484 32) : IVec S1044484 32 :=
  let v0 : IVec S1044484 32 := select arg0 arg1 arg2
  v0

def fn_floor_divide {F : FTy → Type} [FloatOps F] (arg0 : IVec S1044484 32) (arg1 : IVec S_ 32) : IVec S1044484 32 :=
  let v0 : IVec S_ 32 := id arg1
  let v1 : IVec S1044484 32 := broadcastInDim S1044484 ![] bcast_S_S1044484 v0
  let v2 : IVec S1044484 32 := Host.divsi arg0 v1
  let v3 : IVec S1044484 32 := signi arg0
  let v4 : IVec S_ 32 := signi v0
  let v5 : IVec S1044484 32 := broadcastInDim S1044484 ![] bcast_S_S1044484 v4
  let v6 : IVec S1044484 1 := cmpi .ne v3 v5
  let v7 : IVec S1044484 32 := broadcastInDim S1044484 ![] bcast_S_S1044484 v0
  let v8 : IVec S1044484 32 := Host.remsi arg0 v7
  let c : IVec S_ 32 := constantI S_ 32 0#32
  let v9 : IVec S1044484 32 := broadcastInDim S1044484 ![] bcast_S_S1044484 c
  let v10 : IVec S1044484 1 := cmpi .ne v8 v9
  let v11 : IVec S1044484 1 := andi v6 v10
  let c_0 : IVec S_ 32 := constantI S_ 32 1#32
  let v12 : IVec S1044484 32 := broadcastInDim S1044484 ![] bcast_S_S1044484 c_0
  let v13 : IVec S1044484 32 := subi v2 v12
  let v14 : IVec S1044484 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S1044484 32) (arg1 : IVec S_ 32) : IVec S1044484 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S1044484 32 := broadcastInDim S1044484 ![] bcast_S_S1044484 v2
  let v4 : IVec S1044484 32 := Host.remsi arg0 v3
  let c_1 : IVec S_ 32 := constantI S_ 32 0#32
  let v5 : IVec S1044484 32 := broadcastInDim S1044484 ![] bcast_S_S1044484 c_1
  let v6 : IVec S1044484 1 := cmpi .ne v4 v5
  let c_2 : IVec S_ 32 := constantI S_ 32 0#32
  let v7 : IVec S1044484 32 := broadcastInDim S1044484 ![] bcast_S_S1044484 c_2
  let v8 : IVec S1044484 1 := cmpi .slt v4 v7
  let c_3 : IVec S_ 32 := constantI S_ 32 0#32
  let v9 : IVec S_ 1 := cmpi .slt v2 c_3
  let v10 : IVec S1044484 1 := broadcastInDim S1044484 ![] bcast_S_S1044484 v9
  let v11 : IVec S1044484 1 := cmpi .ne v8 v10
  let v12 : IVec S1044484 1 := andi v11 v6
  let v13 : IVec S1044484 32 := broadcastInDim S1044484 ![] bcast_S_S1044484 v2
  let v14 : IVec S1044484 32 := addi v4 v13
  let v15 : IVec S1044484 32 := select v12 v14 v4
  v15

def fn_part1 {F : FTy → Type} [FloatOps F] (main_arg3 : IVec S1044484 32) (main_arg4 : IVec S1044484 32) (main_v1 : IVec S1044484 32) (main_v6 : IVec S1044484 32) (main_v8 : IVec S1044484 1) (main_v10 : IVec S1044484 1) (main_v12 : IVec S1044484 32) (main_v14 : IVec S1044484 1) (main_c_7 : IVec S_ 32) : IVec S_ 1 :=
  let main_v15 : IVec S1044484 32 := broadcastInDim S1044484 ![] bcast_S_S1044484 main_c_7
  let main_v16 : IVec S1044484 32 := addi main_v6 main_v15
  let main_v17 : IVec S1044484 32 := fn_where (F := F) main_v14 main_v6 main_v16
  let main_v18 : IVec S1044484 32 := fn_where (F := F) main_v10 main_v12 main_v17
  let main_v19 : IVec S1044484 32 := fn_where (F := F) main_v8 main_v1 main_v18
  let main_v20 : IVec S1044484 1 := cmpi .eq main_arg3 main_v1
  let main_c_8 : IVec S_ 1 := constantI S_ 1 1#1
  let main_v21 : IVec S_ 1 := (fun x v => Host.reduce IntOp.andi x v reducesTo_S1044484_S_d0 h_S_) main_v20 main_c_8
  let main_v22 : IVec S1044484 1 := cmpi .eq main_arg4 main_v19
  let main_c_9 : IVec S_ 1 := constantI S_ 1 1#1
  let main_v23 : IVec S_ 1 := (fun x v => Host.reduce IntOp.andi x v reducesTo_S1044484_S_d0 h_S_) main_v22 main_c_9
  let main_v24 : IVec S_ 1 := andi main_v21 main_v23
  main_v24

def fn {F : FTy → Type} [FloatOps F] (main_arg0 : FVec F S4x4x523264 .f32) (main_arg1 : FVec F S4x1044484 .f32) (main_arg2 : FVec F S4 .f32) (main_arg3 : IVec S1044484 32) (main_arg4 : IVec S1044484 32) : IVec S_ 1 :=
  let main_v0 : IVec S1044484 32 := iotaInDim S1044484 32 0
  let main_c : IVec S_ 32 := constantI S_ 32 4#32
  let main_v1 : IVec S1044484 32 := fn_floor_divide (F := F) main_v0 main_c
  let main_c_0 : IVec S_ 32 := constantI S_ 32 4#32
  let main_v2 : IVec S1044484 32 := fn_remainder (F := F) main_v0 main_c_0
  let main_c_1 : IVec S_ 32 := constantI S_ 32 511#32
  let main_v3 : IVec S1044484 32 := fn_floor_divide (F := F) main_v1 main_c_1
  let main_c_2 : IVec S_ 32 := constantI S_ 32 261632#32
  let main_v4 : IVec S1044484 32 := broadcastInDim S1044484 ![] bcast_S_S1044484 main_c_2
  let main_v5 : IVec S1044484 32 := addi main_v4 main_v1
  let main_v6 : IVec S1044484 32 := addi main_v5 main_v3
  let main_c_3 : IVec S_ 32 := constantI S_ 32 0#32
  let main_v7 : IVec S1044484 32 := broadcastInDim S1044484 ![] bcast_S_S1044484 main_c_3
  let main_v8 : IVec S1044484 1 := cmpi .eq main_v2 main_v7
  let main_c_4 : IVec S_ 32 := constantI S_ 32 1#32
  let main_v9 : IVec S1044484 32 := broadcastInDim S1044484 ![] bcast_S_S1044484 main_c_4
  let main_v10 : IVec S1044484 1 := cmpi .eq main_v2 main_v9
  let main_c_5 : IVec S_ 32 := constantI S_ 32 511#32
  let main_v11 : IVec S1044484 32 := broadcastInDim S1044484 ![] bcast_S_S1044484 main_c_5
  let main_v12 : IVec S1044484 32 := addi main_v1 main_v11
  let main_c_6 : IVec S_ 32 := constantI S_ 32 2#32
  let main_v13 : IVec S1044484 32 := broadcastInDim S1044484 ![] bcast_S_S1044484 main_c_6
  let main_v14 : IVec S1044484 1 := cmpi .eq main_v2 main_v13
  let main_c_7 : IVec S_ 32 := constantI S_ 32 1#32
  fn_part1 (F := F) main_arg3 main_arg4 main_v1 main_v6 main_v8 main_v10 main_v12 main_v14 main_c_7
-- ==== Kernel.lean ====
abbrev S4x4x523264 : Shape := ⟨3, ![4, 4, 523264]⟩
abbrev S4x1044484 : Shape := ⟨2, ![4, 1044484]⟩
abbrev S4 : Shape := ⟨1, ![4]⟩
abbrev S1044484 : Shape := ⟨1, ![1044484]⟩
abbrev S8372224 : Shape := ⟨1, ![8372224]⟩
abbrev S4177936 : Shape := ⟨1, ![4177936]⟩
abbrev S_ : Shape := ⟨0, ![]⟩
abbrev S16 : Shape := ⟨1, ![16]⟩
abbrev S4186112 : Shape := ⟨1, ![4186112]⟩
abbrev S4608 : Shape := ⟨1, ![4608]⟩
abbrev S4096 : Shape := ⟨1, ![4096]⟩
abbrev S16360 : Shape := ⟨1, ![16360]⟩
abbrev S4x4x511x512 : Shape := ⟨4, ![4, 4, 511, 512]⟩
abbrev S4x4x511x511 : Shape := ⟨4, ![4, 4, 511, 511]⟩
abbrev S4x4x261121 : Shape := ⟨3, ![4, 4, 261121]⟩

abbrev nBuf : Table → Nat
  | .hbm => 14
  | .local .scVector .vmem => 14
  | _ => 0

abbrev bufTy : (tb : Table) → Fin (nBuf tb) → BufTy
  | .hbm, ⟨0, _⟩ => ⟨S4x4x523264, .f32⟩
  | .hbm, ⟨1, _⟩ => ⟨S4x1044484, .f32⟩
  | .hbm, ⟨2, _⟩ => ⟨S4, .f32⟩
  | .hbm, ⟨3, _⟩ => ⟨S1044484, .i32⟩
  | .hbm, ⟨4, _⟩ => ⟨S1044484, .i32⟩
  | .hbm, ⟨5, _⟩ => ⟨S8372224, .f32⟩
  | .hbm, ⟨6, _⟩ => ⟨S4177936, .f32⟩
  | .hbm, ⟨7, _⟩ => ⟨S_, .i32⟩
  | .hbm, ⟨8, _⟩ => ⟨S_, .f32⟩
  | .hbm, ⟨9, _⟩ => ⟨S16, .f32⟩
  | .hbm, ⟨10, _⟩ => ⟨S4186112, .f32⟩
  | .hbm, ⟨11, _⟩ => ⟨S4x4x511x512, .f32⟩
  | .hbm, ⟨12, _⟩ => ⟨S4x4x511x511, .f32⟩
  | .hbm, ⟨13, _⟩ => ⟨S4x4x261121, .f32⟩
  | .local .scVector .vmem, ⟨0, _⟩ => ⟨S4608, .f32⟩
  | .local .scVector .vmem, ⟨1, _⟩ => ⟨S4608, .f32⟩
  | .local .scVector .vmem, ⟨2, _⟩ => ⟨S4608, .f32⟩
  | .local .scVector .vmem, ⟨3, _⟩ => ⟨S4608, .f32⟩
  | .local .scVector .vmem, ⟨4, _⟩ => ⟨S4096, .f32⟩
  | .local .scVector .vmem, ⟨5, _⟩ => ⟨S4096, .f32⟩
  | .local .scVector .vmem, ⟨6, _⟩ => ⟨S4096, .f32⟩
  | .local .scVector .vmem, ⟨7, _⟩ => ⟨S4096, .f32⟩
  | .local .scVector .vmem, ⟨8, _⟩ => ⟨S16360, .f32⟩
  | .local .scVector .vmem, ⟨9, _⟩ => ⟨S4096, .f32⟩
  | .local .scVector .vmem, ⟨10, _⟩ => ⟨S4096, .f32⟩
  | .local .scVector .vmem, ⟨11, _⟩ => ⟨S4096, .f32⟩
  | .local .scVector .vmem, ⟨12, _⟩ => ⟨S4096, .f32⟩
  | .local .scVector .vmem, ⟨13, _⟩ => ⟨S16, .f32⟩
  | _, _ => ⟨S4x4x523264, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v0_scv : Ref sig .scVector := ⟨.hbm, 5, rfl⟩
abbrev main_v1_scv : Ref sig .scVector := ⟨.hbm, 6, rfl⟩
abbrev main_v2_scv : Ref sig .scVector := ⟨.hbm, 9, rfl⟩
abbrev main_v3_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v32 : IVec S16 32) : Prop :=
  (∀ a x, ((![v32] : Fin 1 → IVec S16 32) a x).toNat < S16.size a)
theorem k0_idx1_inb : ∀ (v32 : IVec S16 32) (k0_hw1 : k0_chk1 v32), ∀ a x, ((![v32] : Fin 1 → IVec S16 32) a x).toNat < S16.size a := fun v32 k0_hw1 => k0_hw1
@[reducible] def k0_t1_loop : Scf.Loop 32 :=
  let c0_i32_11 : BitVec 32 := 0#32
  let c8_i32_12 : BitVec 32 := 8#32
  let v34 : BitVec 32 := Scalar.addi c0_i32_11 c8_i32_12
  let c1_i32_13 : BitVec 32 := 1#32
  ⟨c0_i32_11, v34, c1_i32_13⟩
def k0_mult1 (i : grid0.Coords) (k0_t1 : Fin k0_t1_loop.trips) : BitVec 32 :=
  let c0_i32_18 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c523264_i32 : BitVec 32 := 523264#32
  let v50 : BitVec 32 := Scalar.muli v18 c523264_i32
  let v51 : BitVec 32 := Scalar.addi c0_i32_18 v50
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let v42 : BitVec 32 := Scalar.subi v40 v41
  let v52 : BitVec 32 := Scalar.addi v51 v42
  v52
def k0_off1 (i : grid0.Coords) (k0_t1 : Fin k0_t1_loop.trips) (c0_i32_18 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c523264_i32 : BitVec 32 := 523264#32
  let v50 : BitVec 32 := Scalar.muli v18 c523264_i32
  let v51 : BitVec 32 := Scalar.addi c0_i32_18 v50
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let v42 : BitVec 32 := Scalar.subi v40 v41
  let v52 : BitVec 32 := Scalar.addi v51 v42
  let v53 : BitVec 32 := v52
  ![v53.toNat]
def k0_mult2 (i : grid0.Coords) (k0_t1 : Fin k0_t1_loop.trips) : BitVec 32 :=
  let c0_i32_20 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c523264_i32_19 : BitVec 32 := 523264#32
  let v54 : BitVec 32 := Scalar.muli v18 c523264_i32_19
  let v55 : BitVec 32 := Scalar.addi c0_i32_20 v54
  let c261632_i32 : BitVec 32 := 261632#32
  let v56 : BitVec 32 := Scalar.addi v55 c261632_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c512_i32 : BitVec 32 := 512#32
  let v57 : BitVec 32 := Scalar.muli v39 c512_i32
  let v58 : BitVec 32 := Scalar.addi v56 v57
  v58
def k0_off2 (i : grid0.Coords) (k0_t1 : Fin k0_t1_loop.trips) (c0_i32_20 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c523264_i32_19 : BitVec 32 := 523264#32
  let v54 : BitVec 32 := Scalar.muli v18 c523264_i32_19
  let v55 : BitVec 32 := Scalar.addi c0_i32_20 v54
  let c261632_i32 : BitVec 32 := 261632#32
  let v56 : BitVec 32 := Scalar.addi v55 c261632_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c512_i32 : BitVec 32 := 512#32
  let v57 : BitVec 32 := Scalar.muli v39 c512_i32
  let v58 : BitVec 32 := Scalar.addi v56 v57
  let v59 : BitVec 32 := v58
  ![v59.toNat]
def k0_mult3 (i : grid0.Coords) (k0_t1 : Fin k0_t1_loop.trips) : BitVec 32 :=
  let c2093056_i32 : BitVec 32 := 2093056#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c523264_i32_21 : BitVec 32 := 523264#32
  let v60 : BitVec 32 := Scalar.muli v18 c523264_i32_21
  let v61 : BitVec 32 := Scalar.addi c2093056_i32 v60
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let v42 : BitVec 32 := Scalar.subi v40 v41
  let v62 : BitVec 32 := Scalar.addi v61 v42
  v62
def k0_mult4 (i : grid0.Coords) (k0_t1 : Fin k0_t1_loop.trips) : BitVec 32 :=
  let c2093056_i32_23 : BitVec 32 := 2093056#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c523264_i32_22 : BitVec 32 := 523264#32
  let v64 : BitVec 32 := Scalar.muli v18 c523264_i32_22
  let v65 : BitVec 32 := Scalar.addi c2093056_i32_23 v64
  let c261632_i32_24 : BitVec 32 := 261632#32
  let v66 : BitVec 32 := Scalar.addi v65 c261632_i32_24
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c512_i32_25 : BitVec 32 := 512#32
  let v67 : BitVec 32 := Scalar.muli v39 c512_i32_25
  let v68 : BitVec 32 := Scalar.addi v66 v67
  v68
def k0_mult5 (i : grid0.Coords) (k0_t1 : Fin k0_t1_loop.trips) : BitVec 32 :=
  let c4186112_i32 : BitVec 32 := 4186112#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c523264_i32_26 : BitVec 32 := 523264#32
  let v70 : BitVec 32 := Scalar.muli v18 c523264_i32_26
  let v71 : BitVec 32 := Scalar.addi c4186112_i32 v70
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let v42 : BitVec 32 := Scalar.subi v40 v41
  let v72 : BitVec 32 := Scalar.addi v71 v42
  v72
def k0_mult6 (i : grid0.Coords) (k0_t1 : Fin k0_t1_loop.trips) : BitVec 32 :=
  let c4186112_i32_28 : BitVec 32 := 4186112#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c523264_i32_27 : BitVec 32 := 523264#32
  let v74 : BitVec 32 := Scalar.muli v18 c523264_i32_27
  let v75 : BitVec 32 := Scalar.addi c4186112_i32_28 v74
  let c261632_i32_29 : BitVec 32 := 261632#32
  let v76 : BitVec 32 := Scalar.addi v75 c261632_i32_29
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c512_i32_30 : BitVec 32 := 512#32
  let v77 : BitVec 32 := Scalar.muli v39 c512_i32_30
  let v78 : BitVec 32 := Scalar.addi v76 v77
  v78
def k0_mult7 (i : grid0.Coords) (k0_t1 : Fin k0_t1_loop.trips) : BitVec 32 :=
  let c6279168_i32 : BitVec 32 := 6279168#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c523264_i32_31 : BitVec 32 := 523264#32
  let v80 : BitVec 32 := Scalar.muli v18 c523264_i32_31
  let v81 : BitVec 32 := Scalar.addi c6279168_i32 v80
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let v42 : BitVec 32 := Scalar.subi v40 v41
  let v82 : BitVec 32 := Scalar.addi v81 v42
  v82
def k0_mult8 (i : grid0.Coords) (k0_t1 : Fin k0_t1_loop.trips) : BitVec 32 :=
  let c6279168_i32_33 : BitVec 32 := 6279168#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c523264_i32_32 : BitVec 32 := 523264#32
  let v84 : BitVec 32 := Scalar.muli v18 c523264_i32_32
  let v85 : BitVec 32 := Scalar.addi c6279168_i32_33 v84
  let c261632_i32_34 : BitVec 32 := 261632#32
  let v86 : BitVec 32 := Scalar.addi v85 c261632_i32_34
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c512_i32_35 : BitVec 32 := 512#32
  let v87 : BitVec 32 := Scalar.muli v39 c512_i32_35
  let v88 : BitVec 32 := Scalar.addi v86 v87
  v88
def k0_mult9 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1044484_i32 : BitVec 32 := 1044484#32
  let v43 : BitVec 32 := Scalar.muli v18 c1044484_i32
  let c4_i32_16 : BitVec 32 := 4#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let v44 : BitVec 32 := Scalar.muli c4_i32_16 v40
  let v45 : BitVec 32 := Scalar.addi v43 v44
  let c7_i32_17 : BitVec 32 := 7#32
  let v46 : BitVec 32 := Scalar.andi v45 c7_i32_17
  let v47 : BitVec 32 := Scalar.subi v45 v46
  let c4161576_i32 : BitVec 32 := 4161576#32
  let v48 : BitVec 32 := Scalar.minsi v47 c4161576_i32
  v48
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1044484_i32 : BitVec 32 := 1044484#32
  let v43 : BitVec 32 := Scalar.muli v18 c1044484_i32
  let c4_i32_16 : BitVec 32 := 4#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let v44 : BitVec 32 := Scalar.muli c4_i32_16 v40
  let v45 : BitVec 32 := Scalar.addi v43 v44
  let c7_i32_17 : BitVec 32 := 7#32
  let v46 : BitVec 32 := Scalar.andi v45 c7_i32_17
  let v47 : BitVec 32 := Scalar.subi v45 v46
  let c4161576_i32 : BitVec 32 := 4161576#32
  let v48 : BitVec 32 := Scalar.minsi v47 c4161576_i32
  let v90 : BitVec 32 := v48
  ![v90.toNat]
@[reducible] def k0_t2_loop : Scf.Loop 32 :=
  let c0_i32_37 : BitVec 32 := 0#32
  let c8_i32_38 : BitVec 32 := 8#32
  let v91 : BitVec 32 := Scalar.addi c0_i32_37 c8_i32_38
  let c1_i32_39 : BitVec 32 := 1#32
  ⟨c0_i32_37, v91, c1_i32_39⟩

def k0_chk2 (v121 : IVec S16 32) : Prop :=
  (∀ a x, ((![v121] : Fin 1 → IVec S16 32) a x).toNat < S16360.size a)
theorem k0_idx2_inb : ∀ (v121 : IVec S16 32) (k0_hw2 : k0_chk2 v121), ∀ a x, ((![v121] : Fin 1 → IVec S16 32) a x).toNat < S16360.size a := fun v121 k0_hw2 => k0_hw2

def k0_chk3 (v124 : IVec S16 32) : Prop :=
  (∀ a x, ((![v124] : Fin 1 → IVec S16 32) a x).toNat < S16360.size a)
theorem k0_idx3_inb : ∀ (v124 : IVec S16 32) (k0_hw3 : k0_chk3 v124), ∀ a x, ((![v124] : Fin 1 → IVec S16 32) a x).toNat < S16360.size a := fun v124 k0_hw3 => k0_hw3

def k0_chk4 (v127 : IVec S16 32) : Prop :=
  (∀ a x, ((![v127] : Fin 1 → IVec S16 32) a x).toNat < S16360.size a)
theorem k0_idx4_inb : ∀ (v127 : IVec S16 32) (k0_hw4 : k0_chk4 v127), ∀ a x, ((![v127] : Fin 1 → IVec S16 32) a x).toNat < S16360.size a := fun v127 k0_hw4 => k0_hw4

def k0_chk5 (v130 : IVec S16 32) : Prop :=
  (∀ a x, ((![v130] : Fin 1 → IVec S16 32) a x).toNat < S16360.size a)
theorem k0_idx5_inb : ∀ (v130 : IVec S16 32) (k0_hw5 : k0_chk5 v130), ∀ a x, ((![v130] : Fin 1 → IVec S16 32) a x).toNat < S16360.size a := fun v130 k0_hw5 => k0_hw5
def k0_off4 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c0_i32_58 : BitVec 32 := 0#32
  let v132 : BitVec 32 := Scalar.addi v114 c0_i32_58
  let v133 : Index := Scalar.indexCast v132
  ![v133.toNat]
def k0_off5 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_59 : BitVec 32 := 511#32
  let v135 : BitVec 32 := Scalar.addi v114 c511_i32_59
  let c0_i32_60 : BitVec 32 := 0#32
  let v136 : BitVec 32 := Scalar.addi v135 c0_i32_60
  let v137 : Index := Scalar.indexCast v136
  ![v137.toNat]
def k0_off6 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c0_i32_61 : BitVec 32 := 0#32
  let v139 : BitVec 32 := Scalar.addi v115 c0_i32_61
  let v140 : Index := Scalar.indexCast v139
  ![v140.toNat]
def k0_off7 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c0_i32_62 : BitVec 32 := 0#32
  let v142 : BitVec 32 := Scalar.addi v115 c0_i32_62
  let c1_i32_63 : BitVec 32 := 1#32
  let v143 : BitVec 32 := Scalar.addi v142 c1_i32_63
  let v144 : Index := Scalar.indexCast v143
  ![v144.toNat]

def k0_chk6 (v234 : IVec S16 32) : Prop :=
  (∀ a x, ((![v234] : Fin 1 → IVec S16 32) a x).toNat < S16360.size a)
theorem k0_idx6_inb : ∀ (v234 : IVec S16 32) (k0_hw6 : k0_chk6 v234), ∀ a x, ((![v234] : Fin 1 → IVec S16 32) a x).toNat < S16360.size a := fun v234 k0_hw6 => k0_hw6

def k0_chk7 (v237 : IVec S16 32) : Prop :=
  (∀ a x, ((![v237] : Fin 1 → IVec S16 32) a x).toNat < S16360.size a)
theorem k0_idx7_inb : ∀ (v237 : IVec S16 32) (k0_hw7 : k0_chk7 v237), ∀ a x, ((![v237] : Fin 1 → IVec S16 32) a x).toNat < S16360.size a := fun v237 k0_hw7 => k0_hw7

def k0_chk8 (v240 : IVec S16 32) : Prop :=
  (∀ a x, ((![v240] : Fin 1 → IVec S16 32) a x).toNat < S16360.size a)
theorem k0_idx8_inb : ∀ (v240 : IVec S16 32) (k0_hw8 : k0_chk8 v240), ∀ a x, ((![v240] : Fin 1 → IVec S16 32) a x).toNat < S16360.size a := fun v240 k0_hw8 => k0_hw8

def k0_chk9 (v243 : IVec S16 32) : Prop :=
  (∀ a x, ((![v243] : Fin 1 → IVec S16 32) a x).toNat < S16360.size a)
theorem k0_idx9_inb : ∀ (v243 : IVec S16 32) (k0_hw9 : k0_chk9 v243), ∀ a x, ((![v243] : Fin 1 → IVec S16 32) a x).toNat < S16360.size a := fun v243 k0_hw9 => k0_hw9
def k0_off8 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c16_i32 : BitVec 32 := 16#32
  let v245 : BitVec 32 := Scalar.addi v114 c16_i32
  let v246 : Index := Scalar.indexCast v245
  ![v246.toNat]
def k0_off9 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_90 : BitVec 32 := 511#32
  let v248 : BitVec 32 := Scalar.addi v114 c511_i32_90
  let c16_i32_91 : BitVec 32 := 16#32
  let v249 : BitVec 32 := Scalar.addi v248 c16_i32_91
  let v250 : Index := Scalar.indexCast v249
  ![v250.toNat]
def k0_off10 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c16_i32_92 : BitVec 32 := 16#32
  let v252 : BitVec 32 := Scalar.addi v115 c16_i32_92
  let v253 : Index := Scalar.indexCast v252
  ![v253.toNat]
def k0_off11 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c16_i32_93 : BitVec 32 := 16#32
  let v255 : BitVec 32 := Scalar.addi v115 c16_i32_93
  let c1_i32_94 : BitVec 32 := 1#32
  let v256 : BitVec 32 := Scalar.addi v255 c1_i32_94
  let v257 : Index := Scalar.indexCast v256
  ![v257.toNat]

def k0_chk10 (v347 : IVec S16 32) : Prop :=
  (∀ a x, ((![v347] : Fin 1 → IVec S16 32) a x).toNat < S16360.size a)
theorem k0_idx10_inb : ∀ (v347 : IVec S16 32) (k0_hw10 : k0_chk10 v347), ∀ a x, ((![v347] : Fin 1 → IVec S16 32) a x).toNat < S16360.size a := fun v347 k0_hw10 => k0_hw10

def k0_chk11 (v350 : IVec S16 32) : Prop :=
  (∀ a x, ((![v350] : Fin 1 → IVec S16 32) a x).toNat < S16360.size a)
theorem k0_idx11_inb : ∀ (v350 : IVec S16 32) (k0_hw11 : k0_chk11 v350), ∀ a x, ((![v350] : Fin 1 → IVec S16 32) a x).toNat < S16360.size a := fun v350 k0_hw11 => k0_hw11

def k0_chk12 (v353 : IVec S16 32) : Prop :=
  (∀ a x, ((![v353] : Fin 1 → IVec S16 32) a x).toNat < S16360.size a)
theorem k0_idx12_inb : ∀ (v353 : IVec S16 32) (k0_hw12 : k0_chk12 v353), ∀ a x, ((![v353] : Fin 1 → IVec S16 32) a x).toNat < S16360.size a := fun v353 k0_hw12 => k0_hw12

def k0_chk13 (v356 : IVec S16 32) : Prop :=
  (∀ a x, ((![v356] : Fin 1 → IVec S16 32) a x).toNat < S16360.size a)
theorem k0_idx13_inb : ∀ (v356 : IVec S16 32) (k0_hw13 : k0_chk13 v356), ∀ a x, ((![v356] : Fin 1 → IVec S16 32) a x).toNat < S16360.size a := fun v356 k0_hw13 => k0_hw13
def k0_off12 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c32_i32 : BitVec 32 := 32#32
  let v358 : BitVec 32 := Scalar.addi v114 c32_i32
  let v359 : Index := Scalar.indexCast v358
  ![v359.toNat]
def k0_off13 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_120 : BitVec 32 := 511#32
  let v361 : BitVec 32 := Scalar.addi v114 c511_i32_120
  let c32_i32_121 : BitVec 32 := 32#32
  let v362 : BitVec 32 := Scalar.addi v361 c32_i32_121
  let v363 : Index := Scalar.indexCast v362
  ![v363.toNat]
def k0_off14 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c32_i32_122 : BitVec 32 := 32#32
  let v365 : BitVec 32 := Scalar.addi v115 c32_i32_122
  let v366 : Index := Scalar.indexCast v365
  ![v366.toNat]
def k0_off15 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c32_i32_123 : BitVec 32 := 32#32
  let v368 : BitVec 32 := Scalar.addi v115 c32_i32_123
  let c1_i32_124 : BitVec 32 := 1#32
  let v369 : BitVec 32 := Scalar.addi v368 c1_i32_124
  let v370 : Index := Scalar.indexCast v369
  ![v370.toNat]

def k0_chk14 (v460 : IVec S16 32) : Prop :=
  (∀ a x, ((![v460] : Fin 1 → IVec S16 32) a x).toNat < S16360.size a)
theorem k0_idx14_inb : ∀ (v460 : IVec S16 32) (k0_hw14 : k0_chk14 v460), ∀ a x, ((![v460] : Fin 1 → IVec S16 32) a x).toNat < S16360.size a := fun v460 k0_hw14 => k0_hw14

def k0_chk15 (v463 : IVec S16 32) : Prop :=
  (∀ a x, ((![v463] : Fin 1 → IVec S16 32) a x).toNat < S16360.size a)
theorem k0_idx15_inb : ∀ (v463 : IVec S16 32) (k0_hw15 : k0_chk15 v463), ∀ a x, ((![v463] : Fin 1 → IVec S16 32) a x).toNat < S16360.size a := fun v463 k0_hw15 => k0_hw15

def k0_chk16 (v466 : IVec S16 32) : Prop :=
  (∀ a x, ((![v466] : Fin 1 → IVec S16 32) a x).toNat < S16360.size a)
theorem k0_idx16_inb : ∀ (v466 : IVec S16 32) (k0_hw16 : k0_chk16 v466), ∀ a x, ((![v466] : Fin 1 → IVec S16 32) a x).toNat < S16360.size a := fun v466 k0_hw16 => k0_hw16

def k0_chk17 (v469 : IVec S16 32) : Prop :=
  (∀ a x, ((![v469] : Fin 1 → IVec S16 32) a x).toNat < S16360.size a)
theorem k0_idx17_inb : ∀ (v469 : IVec S16 32) (k0_hw17 : k0_chk17 v469), ∀ a x, ((![v469] : Fin 1 → IVec S16 32) a x).toNat < S16360.size a := fun v469 k0_hw17 => k0_hw17
def k0_off16 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c48_i32 : BitVec 32 := 48#32
  let v471 : BitVec 32 := Scalar.addi v114 c48_i32
  let v472 : Index := Scalar.indexCast v471
  ![v472.toNat]
def k0_off17 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_150 : BitVec 32 := 511#32
  let v474 : BitVec 32 := Scalar.addi v114 c511_i32_150
  let c48_i32_151 : BitVec 32 := 48#32
  let v475 : BitVec 32 := Scalar.addi v474 c48_i32_151
  let v476 : Index := Scalar.indexCast v475
  ![v476.toNat]
def k0_off18 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c48_i32_152 : BitVec 32 := 48#32
  let v478 : BitVec 32 := Scalar.addi v115 c48_i32_152
  let v479 : Index := Scalar.indexCast v478
  ![v479.toNat]
def k0_off19 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c48_i32_153 : BitVec 32 := 48#32
  let v481 : BitVec 32 := Scalar.addi v115 c48_i32_153
  let c1_i32_154 : BitVec 32 := 1#32
  let v482 : BitVec 32 := Scalar.addi v481 c1_i32_154
  let v483 : Index := Scalar.indexCast v482
  ![v483.toNat]

def k0_chk18 (v573 : IVec S16 32) : Prop :=
  (∀ a x, ((![v573] : Fin 1 → IVec S16 32) a x).toNat < S16360.size a)
theorem k0_idx18_inb : ∀ (v573 : IVec S16 32) (k0_hw18 : k0_chk18 v573), ∀ a x, ((![v573] : Fin 1 → IVec S16 32) a x).toNat < S16360.size a := fun v573 k0_hw18 => k0_hw18

def k0_chk19 (v576 : IVec S16 32) : Prop :=
  (∀ a x, ((![v576] : Fin 1 → IVec S16 32) a x).toNat < S16360.size a)
theorem k0_idx19_inb : ∀ (v576 : IVec S16 32) (k0_hw19 : k0_chk19 v576), ∀ a x, ((![v576] : Fin 1 → IVec S16 32) a x).toNat < S16360.size a := fun v576 k0_hw19 => k0_hw19

def k0_chk20 (v579 : IVec S16 32) : Prop :=
  (∀ a x, ((![v579] : Fin 1 → IVec S16 32) a x).toNat < S16360.size a)
theorem k0_idx20_inb : ∀ (v579 : IVec S16 32) (k0_hw20 : k0_chk20 v579), ∀ a x, ((![v579] : Fin 1 → IVec S16 32) a x).toNat < S16360.size a := fun v579 k0_hw20 => k0_hw20

def k0_chk21 (v582 : IVec S16 32) : Prop :=
  (∀ a x, ((![v582] : Fin 1 → IVec S16 32) a x).toNat < S16360.size a)
theorem k0_idx21_inb : ∀ (v582 : IVec S16 32) (k0_hw21 : k0_chk21 v582), ∀ a x, ((![v582] : Fin 1 → IVec S16 32) a x).toNat < S16360.size a := fun v582 k0_hw21 => k0_hw21
def k0_off20 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c64_i32_180 : BitVec 32 := 64#32
  let v584 : BitVec 32 := Scalar.addi v114 c64_i32_180
  let v585 : Index := Scalar.indexCast v584
  ![v585.toNat]
def k0_off21 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_181 : BitVec 32 := 511#32
  let v587 : BitVec 32 := Scalar.addi v114 c511_i32_181
  let c64_i32_182 : BitVec 32 := 64#32
  let v588 : BitVec 32 := Scalar.addi v587 c64_i32_182
  let v589 : Index := Scalar.indexCast v588
  ![v589.toNat]
def k0_off22 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c64_i32_183 : BitVec 32 := 64#32
  let v591 : BitVec 32 := Scalar.addi v115 c64_i32_183
  let v592 : Index := Scalar.indexCast v591
  ![v592.toNat]
def k0_off23 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c64_i32_184 : BitVec 32 := 64#32
  let v594 : BitVec 32 := Scalar.addi v115 c64_i32_184
  let c1_i32_185 : BitVec 32 := 1#32
  let v595 : BitVec 32 := Scalar.addi v594 c1_i32_185
  let v596 : Index := Scalar.indexCast v595
  ![v596.toNat]

def k0_chk22 (v686 : IVec S16 32) : Prop :=
  (∀ a x, ((![v686] : Fin 1 → IVec S16 32) a x).toNat < S16360.size a)
theorem k0_idx22_inb : ∀ (v686 : IVec S16 32) (k0_hw22 : k0_chk22 v686), ∀ a x, ((![v686] : Fin 1 → IVec S16 32) a x).toNat < S16360.size a := fun v686 k0_hw22 => k0_hw22

def k0_chk23 (v689 : IVec S16 32) : Prop :=
  (∀ a x, ((![v689] : Fin 1 → IVec S16 32) a x).toNat < S16360.size a)
theorem k0_idx23_inb : ∀ (v689 : IVec S16 32) (k0_hw23 : k0_chk23 v689), ∀ a x, ((![v689] : Fin 1 → IVec S16 32) a x).toNat < S16360.size a := fun v689 k0_hw23 => k0_hw23

def k0_chk24 (v692 : IVec S16 32) : Prop :=
  (∀ a x, ((![v692] : Fin 1 → IVec S16 32) a x).toNat < S16360.size a)
theorem k0_idx24_inb : ∀ (v692 : IVec S16 32) (k0_hw24 : k0_chk24 v692), ∀ a x, ((![v692] : Fin 1 → IVec S16 32) a x).toNat < S16360.size a := fun v692 k0_hw24 => k0_hw24

def k0_chk25 (v695 : IVec S16 32) : Prop :=
  (∀ a x, ((![v695] : Fin 1 → IVec S16 32) a x).toNat < S16360.size a)
theorem k0_idx25_inb : ∀ (v695 : IVec S16 32) (k0_hw25 : k0_chk25 v695), ∀ a x, ((![v695] : Fin 1 → IVec S16 32) a x).toNat < S16360.size a := fun v695 k0_hw25 => k0_hw25
def k0_off24 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c80_i32 : BitVec 32 := 80#32
  let v697 : BitVec 32 := Scalar.addi v114 c80_i32
  let v698 : Index := Scalar.indexCast v697
  ![v698.toNat]
def k0_off25 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_211 : BitVec 32 := 511#32
  let v700 : BitVec 32 := Scalar.addi v114 c511_i32_211
  let c80_i32_212 : BitVec 32 := 80#32
  let v701 : BitVec 32 := Scalar.addi v700 c80_i32_212
  let v702 : Index := Scalar.indexCast v701
  ![v702.toNat]
def k0_off26 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c80_i32_213 : BitVec 32 := 80#32
  let v704 : BitVec 32 := Scalar.addi v115 c80_i32_213
  let v705 : Index := Scalar.indexCast v704
  ![v705.toNat]
def k0_off27 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c80_i32_214 : BitVec 32 := 80#32
  let v707 : BitVec 32 := Scalar.addi v115 c80_i32_214
  let c1_i32_215 : BitVec 32 := 1#32
  let v708 : BitVec 32 := Scalar.addi v707 c1_i32_215
  let v709 : Index := Scalar.indexCast v708
  ![v709.toNat]

def k0_chk26 (v799 : IVec S16 32) : Prop :=
  (∀ a x, ((![v799] : Fin 1 → IVec S16 32) a x).toNat < S16360.size a)
theorem k0_idx26_inb : ∀ (v799 : IVec S16 32) (k0_hw26 : k0_chk26 v799), ∀ a x, ((![v799] : Fin 1 → IVec S16 32) a x).toNat < S16360.size a := fun v799 k0_hw26 => k0_hw26

def k0_chk27 (v802 : IVec S16 32) : Prop :=
  (∀ a x, ((![v802] : Fin 1 → IVec S16 32) a x).toNat < S16360.size a)
theorem k0_idx27_inb : ∀ (v802 : IVec S16 32) (k0_hw27 : k0_chk27 v802), ∀ a x, ((![v802] : Fin 1 → IVec S16 32) a x).toNat < S16360.size a := fun v802 k0_hw27 => k0_hw27

def k0_chk28 (v805 : IVec S16 32) : Prop :=
  (∀ a x, ((![v805] : Fin 1 → IVec S16 32) a x).toNat < S16360.size a)
theorem k0_idx28_inb : ∀ (v805 : IVec S16 32) (k0_hw28 : k0_chk28 v805), ∀ a x, ((![v805] : Fin 1 → IVec S16 32) a x).toNat < S16360.size a := fun v805 k0_hw28 => k0_hw28

def k0_chk29 (v808 : IVec S16 32) : Prop :=
  (∀ a x, ((![v808] : Fin 1 → IVec S16 32) a x).toNat < S16360.size a)
theorem k0_idx29_inb : ∀ (v808 : IVec S16 32) (k0_hw29 : k0_chk29 v808), ∀ a x, ((![v808] : Fin 1 → IVec S16 32) a x).toNat < S16360.size a := fun v808 k0_hw29 => k0_hw29
def k0_off28 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c96_i32 : BitVec 32 := 96#32
  let v810 : BitVec 32 := Scalar.addi v114 c96_i32
  let v811 : Index := Scalar.indexCast v810
  ![v811.toNat]
def k0_off29 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_241 : BitVec 32 := 511#32
  let v813 : BitVec 32 := Scalar.addi v114 c511_i32_241
  let c96_i32_242 : BitVec 32 := 96#32
  let v814 : BitVec 32 := Scalar.addi v813 c96_i32_242
  let v815 : Index := Scalar.indexCast v814
  ![v815.toNat]
def k0_off30 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c96_i32_243 : BitVec 32 := 96#32
  let v817 : BitVec 32 := Scalar.addi v115 c96_i32_243
  let v818 : Index := Scalar.indexCast v817
  ![v818.toNat]
def k0_off31 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c96_i32_244 : BitVec 32 := 96#32
  let v820 : BitVec 32 := Scalar.addi v115 c96_i32_244
  let c1_i32_245 : BitVec 32 := 1#32
  let v821 : BitVec 32 := Scalar.addi v820 c1_i32_245
  let v822 : Index := Scalar.indexCast v821
  ![v822.toNat]

def k0_chk30 (v912 : IVec S16 32) : Prop :=
  (∀ a x, ((![v912] : Fin 1 → IVec S16 32) a x).toNat < S16360.size a)
theorem k0_idx30_inb : ∀ (v912 : IVec S16 32) (k0_hw30 : k0_chk30 v912), ∀ a x, ((![v912] : Fin 1 → IVec S16 32) a x).toNat < S16360.size a := fun v912 k0_hw30 => k0_hw30

def k0_chk31 (v915 : IVec S16 32) : Prop :=
  (∀ a x, ((![v915] : Fin 1 → IVec S16 32) a x).toNat < S16360.size a)
theorem k0_idx31_inb : ∀ (v915 : IVec S16 32) (k0_hw31 : k0_chk31 v915), ∀ a x, ((![v915] : Fin 1 → IVec S16 32) a x).toNat < S16360.size a := fun v915 k0_hw31 => k0_hw31

def k0_chk32 (v918 : IVec S16 32) : Prop :=
  (∀ a x, ((![v918] : Fin 1 → IVec S16 32) a x).toNat < S16360.size a)
theorem k0_idx32_inb : ∀ (v918 : IVec S16 32) (k0_hw32 : k0_chk32 v918), ∀ a x, ((![v918] : Fin 1 → IVec S16 32) a x).toNat < S16360.size a := fun v918 k0_hw32 => k0_hw32

def k0_chk33 (v921 : IVec S16 32) : Prop :=
  (∀ a x, ((![v921] : Fin 1 → IVec S16 32) a x).toNat < S16360.size a)
theorem k0_idx33_inb : ∀ (v921 : IVec S16 32) (k0_hw33 : k0_chk33 v921), ∀ a x, ((![v921] : Fin 1 → IVec S16 32) a x).toNat < S16360.size a := fun v921 k0_hw33 => k0_hw33
def k0_off32 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c112_i32 : BitVec 32 := 112#32
  let v923 : BitVec 32 := Scalar.addi v114 c112_i32
  let v924 : Index := Scalar.indexCast v923
  ![v924.toNat]
def k0_off33 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_271 : BitVec 32 := 511#32
  let v926 : BitVec 32 := Scalar.addi v114 c511_i32_271
  let c112_i32_272 : BitVec 32 := 112#32
  let v927 : BitVec 32 := Scalar.addi v926 c112_i32_272
  let v928 : Index := Scalar.indexCast v927
  ![v928.toNat]
def k0_off34 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c112_i32_273 : BitVec 32 := 112#32
  let v930 : BitVec 32 := Scalar.addi v115 c112_i32_273
  let v931 : Index := Scalar.indexCast v930
  ![v931.toNat]
def k0_off35 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c112_i32_274 : BitVec 32 := 112#32
  let v933 : BitVec 32 := Scalar.addi v115 c112_i32_274
  let c1_i32_275 : BitVec 32 := 1#32
  let v934 : BitVec 32 := Scalar.addi v933 c1_i32_275
  let v935 : Index := Scalar.indexCast v934
  ![v935.toNat]

def k0_chk34 (v1025 : IVec S16 32) : Prop :=
  (∀ a x, ((![v1025] : Fin 1 → IVec S16 32) a x).toNat < S16360.size a)
theorem k0_idx34_inb : ∀ (v1025 : IVec S16 32) (k0_hw34 : k0_chk34 v1025), ∀ a x, ((![v1025] : Fin 1 → IVec S16 32) a x).toNat < S16360.size a := fun v1025 k0_hw34 => k0_hw34

def k0_chk35 (v1028 : IVec S16 32) : Prop :=
  (∀ a x, ((![v1028] : Fin 1 → IVec S16 32) a x).toNat < S16360.size a)
theorem k0_idx35_inb : ∀ (v1028 : IVec S16 32) (k0_hw35 : k0_chk35 v1028), ∀ a x, ((![v1028] : Fin 1 → IVec S16 32) a x).toNat < S16360.size a := fun v1028 k0_hw35 => k0_hw35

def k0_chk36 (v1031 : IVec S16 32) : Prop :=
  (∀ a x, ((![v1031] : Fin 1 → IVec S16 32) a x).toNat < S16360.size a)
theorem k0_idx36_inb : ∀ (v1031 : IVec S16 32) (k0_hw36 : k0_chk36 v1031), ∀ a x, ((![v1031] : Fin 1 → IVec S16 32) a x).toNat < S16360.size a := fun v1031 k0_hw36 => k0_hw36

def k0_chk37 (v1034 : IVec S16 32) : Prop :=
  (∀ a x, ((![v1034] : Fin 1 → IVec S16 32) a x).toNat < S16360.size a)
theorem k0_idx37_inb : ∀ (v1034 : IVec S16 32) (k0_hw37 : k0_chk37 v1034), ∀ a x, ((![v1034] : Fin 1 → IVec S16 32) a x).toNat < S16360.size a := fun v1034 k0_hw37 => k0_hw37
def k0_off36 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c128_i32_302 : BitVec 32 := 128#32
  let v1036 : BitVec 32 := Scalar.addi v114 c128_i32_302
  let v1037 : Index := Scalar.indexCast v1036
  ![v1037.toNat]
def k0_off37 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_303 : BitVec 32 := 511#32
  let v1039 : BitVec 32 := Scalar.addi v114 c511_i32_303
  let c128_i32_304 : BitVec 32 := 128#32
  let v1040 : BitVec 32 := Scalar.addi v1039 c128_i32_304
  let v1041 : Index := Scalar.indexCast v1040
  ![v1041.toNat]
def k0_off38 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c128_i32_305 : BitVec 32 := 128#32
  let v1043 : BitVec 32 := Scalar.addi v115 c128_i32_305
  let v1044 : Index := Scalar.indexCast v1043
  ![v1044.toNat]
def k0_off39 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c128_i32_306 : BitVec 32 := 128#32
  let v1046 : BitVec 32 := Scalar.addi v115 c128_i32_306
  let c1_i32_307 : BitVec 32 := 1#32
  let v1047 : BitVec 32 := Scalar.addi v1046 c1_i32_307
  let v1048 : Index := Scalar.indexCast v1047
  ![v1048.toNat]

def k0_chk38 (v1138 : IVec S16 32) : Prop :=
  (∀ a x, ((![v1138] : Fin 1 → IVec S16 32) a x).toNat < S16360.size a)
theorem k0_idx38_inb : ∀ (v1138 : IVec S16 32) (k0_hw38 : k0_chk38 v1138), ∀ a x, ((![v1138] : Fin 1 → IVec S16 32) a x).toNat < S16360.size a := fun v1138 k0_hw38 => k0_hw38

def k0_chk39 (v1141 : IVec S16 32) : Prop :=
  (∀ a x, ((![v1141] : Fin 1 → IVec S16 32) a x).toNat < S16360.size a)
theorem k0_idx39_inb : ∀ (v1141 : IVec S16 32) (k0_hw39 : k0_chk39 v1141), ∀ a x, ((![v1141] : Fin 1 → IVec S16 32) a x).toNat < S16360.size a := fun v1141 k0_hw39 => k0_hw39

def k0_chk40 (v1144 : IVec S16 32) : Prop :=
  (∀ a x, ((![v1144] : Fin 1 → IVec S16 32) a x).toNat < S16360.size a)
theorem k0_idx40_inb : ∀ (v1144 : IVec S16 32) (k0_hw40 : k0_chk40 v1144), ∀ a x, ((![v1144] : Fin 1 → IVec S16 32) a x).toNat < S16360.size a := fun v1144 k0_hw40 => k0_hw40

def k0_chk41 (v1147 : IVec S16 32) : Prop :=
  (∀ a x, ((![v1147] : Fin 1 → IVec S16 32) a x).toNat < S16360.size a)
theorem k0_idx41_inb : ∀ (v1147 : IVec S16 32) (k0_hw41 : k0_chk41 v1147), ∀ a x, ((![v1147] : Fin 1 → IVec S16 32) a x).toNat < S16360.size a := fun v1147 k0_hw41 => k0_hw41
def k0_off40 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c144_i32 : BitVec 32 := 144#32
  let v1149 : BitVec 32 := Scalar.addi v114 c144_i32
  let v1150 : Index := Scalar.indexCast v1149
  ![v1150.toNat]
def k0_off41 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_333 : BitVec 32 := 511#32
  let v1152 : BitVec 32 := Scalar.addi v114 c511_i32_333
  let c144_i32_334 : BitVec 32 := 144#32
  let v1153 : BitVec 32 := Scalar.addi v1152 c144_i32_334
  let v1154 : Index := Scalar.indexCast v1153
  ![v1154.toNat]
def k0_off42 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c144_i32_335 : BitVec 32 := 144#32
  let v1156 : BitVec 32 := Scalar.addi v115 c144_i32_335
  let v1157 : Index := Scalar.indexCast v1156
  ![v1157.toNat]
def k0_off43 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c144_i32_336 : BitVec 32 := 144#32
  let v1159 : BitVec 32 := Scalar.addi v115 c144_i32_336
  let c1_i32_337 : BitVec 32 := 1#32
  let v1160 : BitVec 32 := Scalar.addi v1159 c1_i32_337
  let v1161 : Index := Scalar.indexCast v1160
  ![v1161.toNat]

def k0_chk42 (v1251 : IVec S16 32) : Prop :=
  (∀ a x, ((![v1251] : Fin 1 → IVec S16 32) a x).toNat < S16360.size a)
theorem k0_idx42_inb : ∀ (v1251 : IVec S16 32) (k0_hw42 : k0_chk42 v1251), ∀ a x, ((![v1251] : Fin 1 → IVec S16 32) a x).toNat < S16360.size a := fun v1251 k0_hw42 => k0_hw42

def k0_chk43 (v1254 : IVec S16 32) : Prop :=
  (∀ a x, ((![v1254] : Fin 1 → IVec S16 32) a x).toNat < S16360.size a)
theorem k0_idx43_inb : ∀ (v1254 : IVec S16 32) (k0_hw43 : k0_chk43 v1254), ∀ a x, ((![v1254] : Fin 1 → IVec S16 32) a x).toNat < S16360.size a := fun v1254 k0_hw43 => k0_hw43

def k0_chk44 (v1257 : IVec S16 32) : Prop :=
  (∀ a x, ((![v1257] : Fin 1 → IVec S16 32) a x).toNat < S16360.size a)
theorem k0_idx44_inb : ∀ (v1257 : IVec S16 32) (k0_hw44 : k0_chk44 v1257), ∀ a x, ((![v1257] : Fin 1 → IVec S16 32) a x).toNat < S16360.size a := fun v1257 k0_hw44 => k0_hw44

def k0_chk45 (v1260 : IVec S16 32) : Prop :=
  (∀ a x, ((![v1260] : Fin 1 → IVec S16 32) a x).toNat < S16360.size a)
theorem k0_idx45_inb : ∀ (v1260 : IVec S16 32) (k0_hw45 : k0_chk45 v1260), ∀ a x, ((![v1260] : Fin 1 → IVec S16 32) a x).toNat < S16360.size a := fun v1260 k0_hw45 => k0_hw45
def k0_off44 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c160_i32 : BitVec 32 := 160#32
  let v1262 : BitVec 32 := Scalar.addi v114 c160_i32
  let v1263 : Index := Scalar.indexCast v1262
  ![v1263.toNat]
def k0_off45 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_363 : BitVec 32 := 511#32
  let v1265 : BitVec 32 := Scalar.addi v114 c511_i32_363
  let c160_i32_364 : BitVec 32 := 160#32
  let v1266 : BitVec 32 := Scalar.addi v1265 c160_i32_364
  let v1267 : Index := Scalar.indexCast v1266
  ![v1267.toNat]
def k0_off46 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c160_i32_365 : BitVec 32 := 160#32
  let v1269 : BitVec 32 := Scalar.addi v115 c160_i32_365
  let v1270 : Index := Scalar.indexCast v1269
  ![v1270.toNat]
def k0_off47 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c160_i32_366 : BitVec 32 := 160#32
  let v1272 : BitVec 32 := Scalar.addi v115 c160_i32_366
  let c1_i32_367 : BitVec 32 := 1#32
  let v1273 : BitVec 32 := Scalar.addi v1272 c1_i32_367
  let v1274 : Index := Scalar.indexCast v1273
  ![v1274.toNat]

def k0_chk46 (v1364 : IVec S16 32) : Prop :=
  (∀ a x, ((![v1364] : Fin 1 → IVec S16 32) a x).toNat < S16360.size a)
theorem k0_idx46_inb : ∀ (v1364 : IVec S16 32) (k0_hw46 : k0_chk46 v1364), ∀ a x, ((![v1364] : Fin 1 → IVec S16 32) a x).toNat < S16360.size a := fun v1364 k0_hw46 => k0_hw46

def k0_chk47 (v1367 : IVec S16 32) : Prop :=
  (∀ a x, ((![v1367] : Fin 1 → IVec S16 32) a x).toNat < S16360.size a)
theorem k0_idx47_inb : ∀ (v1367 : IVec S16 32) (k0_hw47 : k0_chk47 v1367), ∀ a x, ((![v1367] : Fin 1 → IVec S16 32) a x).toNat < S16360.size a := fun v1367 k0_hw47 => k0_hw47

def k0_chk48 (v1370 : IVec S16 32) : Prop :=
  (∀ a x, ((![v1370] : Fin 1 → IVec S16 32) a x).toNat < S16360.size a)
theorem k0_idx48_inb : ∀ (v1370 : IVec S16 32) (k0_hw48 : k0_chk48 v1370), ∀ a x, ((![v1370] : Fin 1 → IVec S16 32) a x).toNat < S16360.size a := fun v1370 k0_hw48 => k0_hw48

def k0_chk49 (v1373 : IVec S16 32) : Prop :=
  (∀ a x, ((![v1373] : Fin 1 → IVec S16 32) a x).toNat < S16360.size a)
theorem k0_idx49_inb : ∀ (v1373 : IVec S16 32) (k0_hw49 : k0_chk49 v1373), ∀ a x, ((![v1373] : Fin 1 → IVec S16 32) a x).toNat < S16360.size a := fun v1373 k0_hw49 => k0_hw49
def k0_off48 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c176_i32 : BitVec 32 := 176#32
  let v1375 : BitVec 32 := Scalar.addi v114 c176_i32
  let v1376 : Index := Scalar.indexCast v1375
  ![v1376.toNat]
def k0_off49 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_393 : BitVec 32 := 511#32
  let v1378 : BitVec 32 := Scalar.addi v114 c511_i32_393
  let c176_i32_394 : BitVec 32 := 176#32
  let v1379 : BitVec 32 := Scalar.addi v1378 c176_i32_394
  let v1380 : Index := Scalar.indexCast v1379
  ![v1380.toNat]
def k0_off50 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c176_i32_395 : BitVec 32 := 176#32
  let v1382 : BitVec 32 := Scalar.addi v115 c176_i32_395
  let v1383 : Index := Scalar.indexCast v1382
  ![v1383.toNat]
def k0_off51 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c176_i32_396 : BitVec 32 := 176#32
  let v1385 : BitVec 32 := Scalar.addi v115 c176_i32_396
  let c1_i32_397 : BitVec 32 := 1#32
  let v1386 : BitVec 32 := Scalar.addi v1385 c1_i32_397
  let v1387 : Index := Scalar.indexCast v1386
  ![v1387.toNat]

def k0_chk50 (v1477 : IVec S16 32) : Prop :=
  (∀ a x, ((![v1477] : Fin 1 → IVec S16 32) a x).toNat < S16360.size a)
theorem k0_idx50_inb : ∀ (v1477 : IVec S16 32) (k0_hw50 : k0_chk50 v1477), ∀ a x, ((![v1477] : Fin 1 → IVec S16 32) a x).toNat < S16360.size a := fun v1477 k0_hw50 => k0_hw50

def k0_chk51 (v1480 : IVec S16 32) : Prop :=
  (∀ a x, ((![v1480] : Fin 1 → IVec S16 32) a x).toNat < S16360.size a)
theorem k0_idx51_inb : ∀ (v1480 : IVec S16 32) (k0_hw51 : k0_chk51 v1480), ∀ a x, ((![v1480] : Fin 1 → IVec S16 32) a x).toNat < S16360.size a := fun v1480 k0_hw51 => k0_hw51

def k0_chk52 (v1483 : IVec S16 32) : Prop :=
  (∀ a x, ((![v1483] : Fin 1 → IVec S16 32) a x).toNat < S16360.size a)
theorem k0_idx52_inb : ∀ (v1483 : IVec S16 32) (k0_hw52 : k0_chk52 v1483), ∀ a x, ((![v1483] : Fin 1 → IVec S16 32) a x).toNat < S16360.size a := fun v1483 k0_hw52 => k0_hw52

def k0_chk53 (v1486 : IVec S16 32) : Prop :=
  (∀ a x, ((![v1486] : Fin 1 → IVec S16 32) a x).toNat < S16360.size a)
theorem k0_idx53_inb : ∀ (v1486 : IVec S16 32) (k0_hw53 : k0_chk53 v1486), ∀ a x, ((![v1486] : Fin 1 → IVec S16 32) a x).toNat < S16360.size a := fun v1486 k0_hw53 => k0_hw53
def k0_off52 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c192_i32_423 : BitVec 32 := 192#32
  let v1488 : BitVec 32 := Scalar.addi v114 c192_i32_423
  let v1489 : Index := Scalar.indexCast v1488
  ![v1489.toNat]
def k0_off53 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_424 : BitVec 32 := 511#32
  let v1491 : BitVec 32 := Scalar.addi v114 c511_i32_424
  let c192_i32_425 : BitVec 32 := 192#32
  let v1492 : BitVec 32 := Scalar.addi v1491 c192_i32_425
  let v1493 : Index := Scalar.indexCast v1492
  ![v1493.toNat]
def k0_off54 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c192_i32_426 : BitVec 32 := 192#32
  let v1495 : BitVec 32 := Scalar.addi v115 c192_i32_426
  let v1496 : Index := Scalar.indexCast v1495
  ![v1496.toNat]
def k0_off55 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c192_i32_427 : BitVec 32 := 192#32
  let v1498 : BitVec 32 := Scalar.addi v115 c192_i32_427
  let c1_i32_428 : BitVec 32 := 1#32
  let v1499 : BitVec 32 := Scalar.addi v1498 c1_i32_428
  let v1500 : Index := Scalar.indexCast v1499
  ![v1500.toNat]

def k0_chk54 (v1590 : IVec S16 32) : Prop :=
  (∀ a x, ((![v1590] : Fin 1 → IVec S16 32) a x).toNat < S16360.size a)
theorem k0_idx54_inb : ∀ (v1590 : IVec S16 32) (k0_hw54 : k0_chk54 v1590), ∀ a x, ((![v1590] : Fin 1 → IVec S16 32) a x).toNat < S16360.size a := fun v1590 k0_hw54 => k0_hw54

def k0_chk55 (v1593 : IVec S16 32) : Prop :=
  (∀ a x, ((![v1593] : Fin 1 → IVec S16 32) a x).toNat < S16360.size a)
theorem k0_idx55_inb : ∀ (v1593 : IVec S16 32) (k0_hw55 : k0_chk55 v1593), ∀ a x, ((![v1593] : Fin 1 → IVec S16 32) a x).toNat < S16360.size a := fun v1593 k0_hw55 => k0_hw55

def k0_chk56 (v1596 : IVec S16 32) : Prop :=
  (∀ a x, ((![v1596] : Fin 1 → IVec S16 32) a x).toNat < S16360.size a)
theorem k0_idx56_inb : ∀ (v1596 : IVec S16 32) (k0_hw56 : k0_chk56 v1596), ∀ a x, ((![v1596] : Fin 1 → IVec S16 32) a x).toNat < S16360.size a := fun v1596 k0_hw56 => k0_hw56

def k0_chk57 (v1599 : IVec S16 32) : Prop :=
  (∀ a x, ((![v1599] : Fin 1 → IVec S16 32) a x).toNat < S16360.size a)
theorem k0_idx57_inb : ∀ (v1599 : IVec S16 32) (k0_hw57 : k0_chk57 v1599), ∀ a x, ((![v1599] : Fin 1 → IVec S16 32) a x).toNat < S16360.size a := fun v1599 k0_hw57 => k0_hw57
def k0_off56 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c208_i32 : BitVec 32 := 208#32
  let v1601 : BitVec 32 := Scalar.addi v114 c208_i32
  let v1602 : Index := Scalar.indexCast v1601
  ![v1602.toNat]
def k0_off57 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_454 : BitVec 32 := 511#32
  let v1604 : BitVec 32 := Scalar.addi v114 c511_i32_454
  let c208_i32_455 : BitVec 32 := 208#32
  let v1605 : BitVec 32 := Scalar.addi v1604 c208_i32_455
  let v1606 : Index := Scalar.indexCast v1605
  ![v1606.toNat]
def k0_off58 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c208_i32_456 : BitVec 32 := 208#32
  let v1608 : BitVec 32 := Scalar.addi v115 c208_i32_456
  let v1609 : Index := Scalar.indexCast v1608
  ![v1609.toNat]
def k0_off59 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c208_i32_457 : BitVec 32 := 208#32
  let v1611 : BitVec 32 := Scalar.addi v115 c208_i32_457
  let c1_i32_458 : BitVec 32 := 1#32
  let v1612 : BitVec 32 := Scalar.addi v1611 c1_i32_458
  let v1613 : Index := Scalar.indexCast v1612
  ![v1613.toNat]

def k0_chk58 (v1703 : IVec S16 32) : Prop :=
  (∀ a x, ((![v1703] : Fin 1 → IVec S16 32) a x).toNat < S16360.size a)
theorem k0_idx58_inb : ∀ (v1703 : IVec S16 32) (k0_hw58 : k0_chk58 v1703), ∀ a x, ((![v1703] : Fin 1 → IVec S16 32) a x).toNat < S16360.size a := fun v1703 k0_hw58 => k0_hw58

def k0_chk59 (v1706 : IVec S16 32) : Prop :=
  (∀ a x, ((![v1706] : Fin 1 → IVec S16 32) a x).toNat < S16360.size a)
theorem k0_idx59_inb : ∀ (v1706 : IVec S16 32) (k0_hw59 : k0_chk59 v1706), ∀ a x, ((![v1706] : Fin 1 → IVec S16 32) a x).toNat < S16360.size a := fun v1706 k0_hw59 => k0_hw59

def k0_chk60 (v1709 : IVec S16 32) : Prop :=
  (∀ a x, ((![v1709] : Fin 1 → IVec S16 32) a x).toNat < S16360.size a)
theorem k0_idx60_inb : ∀ (v1709 : IVec S16 32) (k0_hw60 : k0_chk60 v1709), ∀ a x, ((![v1709] : Fin 1 → IVec S16 32) a x).toNat < S16360.size a := fun v1709 k0_hw60 => k0_hw60

def k0_chk61 (v1712 : IVec S16 32) : Prop :=
  (∀ a x, ((![v1712] : Fin 1 → IVec S16 32) a x).toNat < S16360.size a)
theorem k0_idx61_inb : ∀ (v1712 : IVec S16 32) (k0_hw61 : k0_chk61 v1712), ∀ a x, ((![v1712] : Fin 1 → IVec S16 32) a x).toNat < S16360.size a := fun v1712 k0_hw61 => k0_hw61
def k0_off60 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c224_i32 : BitVec 32 := 224#32
  let v1714 : BitVec 32 := Scalar.addi v114 c224_i32
  let v1715 : Index := Scalar.indexCast v1714
  ![v1715.toNat]
def k0_off61 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_484 : BitVec 32 := 511#32
  let v1717 : BitVec 32 := Scalar.addi v114 c511_i32_484
  let c224_i32_485 : BitVec 32 := 224#32
  let v1718 : BitVec 32 := Scalar.addi v1717 c224_i32_485
  let v1719 : Index := Scalar.indexCast v1718
  ![v1719.toNat]
def k0_off62 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c224_i32_486 : BitVec 32 := 224#32
  let v1721 : BitVec 32 := Scalar.addi v115 c224_i32_486
  let v1722 : Index := Scalar.indexCast v1721
  ![v1722.toNat]
def k0_off63 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c224_i32_487 : BitVec 32 := 224#32
  let v1724 : BitVec 32 := Scalar.addi v115 c224_i32_487
  let c1_i32_488 : BitVec 32 := 1#32
  let v1725 : BitVec 32 := Scalar.addi v1724 c1_i32_488
  let v1726 : Index := Scalar.indexCast v1725
  ![v1726.toNat]

def k0_chk62 (v1816 : IVec S16 32) : Prop :=
  (∀ a x, ((![v1816] : Fin 1 → IVec S16 32) a x).toNat < S16360.size a)
theorem k0_idx62_inb : ∀ (v1816 : IVec S16 32) (k0_hw62 : k0_chk62 v1816), ∀ a x, ((![v1816] : Fin 1 → IVec S16 32) a x).toNat < S16360.size a := fun v1816 k0_hw62 => k0_hw62

def k0_chk63 (v1819 : IVec S16 32) : Prop :=
  (∀ a x, ((![v1819] : Fin 1 → IVec S16 32) a x).toNat < S16360.size a)
theorem k0_idx63_inb : ∀ (v1819 : IVec S16 32) (k0_hw63 : k0_chk63 v1819), ∀ a x, ((![v1819] : Fin 1 → IVec S16 32) a x).toNat < S16360.size a := fun v1819 k0_hw63 => k0_hw63

def k0_chk64 (v1822 : IVec S16 32) : Prop :=
  (∀ a x, ((![v1822] : Fin 1 → IVec S16 32) a x).toNat < S16360.size a)
theorem k0_idx64_inb : ∀ (v1822 : IVec S16 32) (k0_hw64 : k0_chk64 v1822), ∀ a x, ((![v1822] : Fin 1 → IVec S16 32) a x).toNat < S16360.size a := fun v1822 k0_hw64 => k0_hw64

def k0_chk65 (v1825 : IVec S16 32) : Prop :=
  (∀ a x, ((![v1825] : Fin 1 → IVec S16 32) a x).toNat < S16360.size a)
theorem k0_idx65_inb : ∀ (v1825 : IVec S16 32) (k0_hw65 : k0_chk65 v1825), ∀ a x, ((![v1825] : Fin 1 → IVec S16 32) a x).toNat < S16360.size a := fun v1825 k0_hw65 => k0_hw65
def k0_off64 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c240_i32 : BitVec 32 := 240#32
  let v1827 : BitVec 32 := Scalar.addi v114 c240_i32
  let v1828 : Index := Scalar.indexCast v1827
  ![v1828.toNat]
def k0_off65 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_514 : BitVec 32 := 511#32
  let v1830 : BitVec 32 := Scalar.addi v114 c511_i32_514
  let c240_i32_515 : BitVec 32 := 240#32
  let v1831 : BitVec 32 := Scalar.addi v1830 c240_i32_515
  let v1832 : Index := Scalar.indexCast v1831
  ![v1832.toNat]
def k0_off66 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c240_i32_516 : BitVec 32 := 240#32
  let v1834 : BitVec 32 := Scalar.addi v115 c240_i32_516
  let v1835 : Index := Scalar.indexCast v1834
  ![v1835.toNat]
def k0_off67 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c240_i32_517 : BitVec 32 := 240#32
  let v1837 : BitVec 32 := Scalar.addi v115 c240_i32_517
  let c1_i32_518 : BitVec 32 := 1#32
  let v1838 : BitVec 32 := Scalar.addi v1837 c1_i32_518
  let v1839 : Index := Scalar.indexCast v1838
  ![v1839.toNat]

def k0_chk66 (v1929 : IVec S16 32) : Prop :=
  (∀ a x, ((![v1929] : Fin 1 → IVec S16 32) a x).toNat < S16360.size a)
theorem k0_idx66_inb : ∀ (v1929 : IVec S16 32) (k0_hw66 : k0_chk66 v1929), ∀ a x, ((![v1929] : Fin 1 → IVec S16 32) a x).toNat < S16360.size a := fun v1929 k0_hw66 => k0_hw66

def k0_chk67 (v1932 : IVec S16 32) : Prop :=
  (∀ a x, ((![v1932] : Fin 1 → IVec S16 32) a x).toNat < S16360.size a)
theorem k0_idx67_inb : ∀ (v1932 : IVec S16 32) (k0_hw67 : k0_chk67 v1932), ∀ a x, ((![v1932] : Fin 1 → IVec S16 32) a x).toNat < S16360.size a := fun v1932 k0_hw67 => k0_hw67

def k0_chk68 (v1935 : IVec S16 32) : Prop :=
  (∀ a x, ((![v1935] : Fin 1 → IVec S16 32) a x).toNat < S16360.size a)
theorem k0_idx68_inb : ∀ (v1935 : IVec S16 32) (k0_hw68 : k0_chk68 v1935), ∀ a x, ((![v1935] : Fin 1 → IVec S16 32) a x).toNat < S16360.size a := fun v1935 k0_hw68 => k0_hw68

def k0_chk69 (v1938 : IVec S16 32) : Prop :=
  (∀ a x, ((![v1938] : Fin 1 → IVec S16 32) a x).toNat < S16360.size a)
theorem k0_idx69_inb : ∀ (v1938 : IVec S16 32) (k0_hw69 : k0_chk69 v1938), ∀ a x, ((![v1938] : Fin 1 → IVec S16 32) a x).toNat < S16360.size a := fun v1938 k0_hw69 => k0_hw69
def k0_off68 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c256_i32_544 : BitVec 32 := 256#32
  let v1940 : BitVec 32 := Scalar.addi v114 c256_i32_544
  let v1941 : Index := Scalar.indexCast v1940
  ![v1941.toNat]
def k0_off69 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_545 : BitVec 32 := 511#32
  let v1943 : BitVec 32 := Scalar.addi v114 c511_i32_545
  let c256_i32_546 : BitVec 32 := 256#32
  let v1944 : BitVec 32 := Scalar.addi v1943 c256_i32_546
  let v1945 : Index := Scalar.indexCast v1944
  ![v1945.toNat]
def k0_off70 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c256_i32_547 : BitVec 32 := 256#32
  let v1947 : BitVec 32 := Scalar.addi v115 c256_i32_547
  let v1948 : Index := Scalar.indexCast v1947
  ![v1948.toNat]
def k0_off71 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c256_i32_548 : BitVec 32 := 256#32
  let v1950 : BitVec 32 := Scalar.addi v115 c256_i32_548
  let c1_i32_549 : BitVec 32 := 1#32
  let v1951 : BitVec 32 := Scalar.addi v1950 c1_i32_549
  let v1952 : Index := Scalar.indexCast v1951
  ![v1952.toNat]

def k0_chk70 (v2042 : IVec S16 32) : Prop :=
  (∀ a x, ((![v2042] : Fin 1 → IVec S16 32) a x).toNat < S16360.size a)
theorem k0_idx70_inb : ∀ (v2042 : IVec S16 32) (k0_hw70 : k0_chk70 v2042), ∀ a x, ((![v2042] : Fin 1 → IVec S16 32) a x).toNat < S16360.size a := fun v2042 k0_hw70 => k0_hw70

def k0_chk71 (v2045 : IVec S16 32) : Prop :=
  (∀ a x, ((![v2045] : Fin 1 → IVec S16 32) a x).toNat < S16360.size a)
theorem k0_idx71_inb : ∀ (v2045 : IVec S16 32) (k0_hw71 : k0_chk71 v2045), ∀ a x, ((![v2045] : Fin 1 → IVec S16 32) a x).toNat < S16360.size a := fun v2045 k0_hw71 => k0_hw71

def k0_chk72 (v2048 : IVec S16 32) : Prop :=
  (∀ a x, ((![v2048] : Fin 1 → IVec S16 32) a x).toNat < S16360.size a)
theorem k0_idx72_inb : ∀ (v2048 : IVec S16 32) (k0_hw72 : k0_chk72 v2048), ∀ a x, ((![v2048] : Fin 1 → IVec S16 32) a x).toNat < S16360.size a := fun v2048 k0_hw72 => k0_hw72

def k0_chk73 (v2051 : IVec S16 32) : Prop :=
  (∀ a x, ((![v2051] : Fin 1 → IVec S16 32) a x).toNat < S16360.size a)
theorem k0_idx73_inb : ∀ (v2051 : IVec S16 32) (k0_hw73 : k0_chk73 v2051), ∀ a x, ((![v2051] : Fin 1 → IVec S16 32) a x).toNat < S16360.size a := fun v2051 k0_hw73 => k0_hw73
def k0_off72 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c272_i32 : BitVec 32 := 272#32
  let v2053 : BitVec 32 := Scalar.addi v114 c272_i32
  let v2054 : Index := Scalar.indexCast v2053
  ![v2054.toNat]
def k0_off73 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_575 : BitVec 32 := 511#32
  let v2056 : BitVec 32 := Scalar.addi v114 c511_i32_575
  let c272_i32_576 : BitVec 32 := 272#32
  let v2057 : BitVec 32 := Scalar.addi v2056 c272_i32_576
  let v2058 : Index := Scalar.indexCast v2057
  ![v2058.toNat]
def k0_off74 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c272_i32_577 : BitVec 32 := 272#32
  let v2060 : BitVec 32 := Scalar.addi v115 c272_i32_577
  let v2061 : Index := Scalar.indexCast v2060
  ![v2061.toNat]
def k0_off75 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c272_i32_578 : BitVec 32 := 272#32
  let v2063 : BitVec 32 := Scalar.addi v115 c272_i32_578
  let c1_i32_579 : BitVec 32 := 1#32
  let v2064 : BitVec 32 := Scalar.addi v2063 c1_i32_579
  let v2065 : Index := Scalar.indexCast v2064
  ![v2065.toNat]

def k0_chk74 (v2155 : IVec S16 32) : Prop :=
  (∀ a x, ((![v2155] : Fin 1 → IVec S16 32) a x).toNat < S16360.size a)
theorem k0_idx74_inb : ∀ (v2155 : IVec S16 32) (k0_hw74 : k0_chk74 v2155), ∀ a x, ((![v2155] : Fin 1 → IVec S16 32) a x).toNat < S16360.size a := fun v2155 k0_hw74 => k0_hw74

def k0_chk75 (v2158 : IVec S16 32) : Prop :=
  (∀ a x, ((![v2158] : Fin 1 → IVec S16 32) a x).toNat < S16360.size a)
theorem k0_idx75_inb : ∀ (v2158 : IVec S16 32) (k0_hw75 : k0_chk75 v2158), ∀ a x, ((![v2158] : Fin 1 → IVec S16 32) a x).toNat < S16360.size a := fun v2158 k0_hw75 => k0_hw75

def k0_chk76 (v2161 : IVec S16 32) : Prop :=
  (∀ a x, ((![v2161] : Fin 1 → IVec S16 32) a x).toNat < S16360.size a)
theorem k0_idx76_inb : ∀ (v2161 : IVec S16 32) (k0_hw76 : k0_chk76 v2161), ∀ a x, ((![v2161] : Fin 1 → IVec S16 32) a x).toNat < S16360.size a := fun v2161 k0_hw76 => k0_hw76

def k0_chk77 (v2164 : IVec S16 32) : Prop :=
  (∀ a x, ((![v2164] : Fin 1 → IVec S16 32) a x).toNat < S16360.size a)
theorem k0_idx77_inb : ∀ (v2164 : IVec S16 32) (k0_hw77 : k0_chk77 v2164), ∀ a x, ((![v2164] : Fin 1 → IVec S16 32) a x).toNat < S16360.size a := fun v2164 k0_hw77 => k0_hw77
def k0_off76 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c288_i32 : BitVec 32 := 288#32
  let v2166 : BitVec 32 := Scalar.addi v114 c288_i32
  let v2167 : Index := Scalar.indexCast v2166
  ![v2167.toNat]
def k0_off77 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_605 : BitVec 32 := 511#32
  let v2169 : BitVec 32 := Scalar.addi v114 c511_i32_605
  let c288_i32_606 : BitVec 32 := 288#32
  let v2170 : BitVec 32 := Scalar.addi v2169 c288_i32_606
  let v2171 : Index := Scalar.indexCast v2170
  ![v2171.toNat]
def k0_off78 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c288_i32_607 : BitVec 32 := 288#32
  let v2173 : BitVec 32 := Scalar.addi v115 c288_i32_607
  let v2174 : Index := Scalar.indexCast v2173
  ![v2174.toNat]
def k0_off79 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c288_i32_608 : BitVec 32 := 288#32
  let v2176 : BitVec 32 := Scalar.addi v115 c288_i32_608
  let c1_i32_609 : BitVec 32 := 1#32
  let v2177 : BitVec 32 := Scalar.addi v2176 c1_i32_609
  let v2178 : Index := Scalar.indexCast v2177
  ![v2178.toNat]

def k0_chk78 (v2268 : IVec S16 32) : Prop :=
  (∀ a x, ((![v2268] : Fin 1 → IVec S16 32) a x).toNat < S16360.size a)
theorem k0_idx78_inb : ∀ (v2268 : IVec S16 32) (k0_hw78 : k0_chk78 v2268), ∀ a x, ((![v2268] : Fin 1 → IVec S16 32) a x).toNat < S16360.size a := fun v2268 k0_hw78 => k0_hw78

def k0_chk79 (v2271 : IVec S16 32) : Prop :=
  (∀ a x, ((![v2271] : Fin 1 → IVec S16 32) a x).toNat < S16360.size a)
theorem k0_idx79_inb : ∀ (v2271 : IVec S16 32) (k0_hw79 : k0_chk79 v2271), ∀ a x, ((![v2271] : Fin 1 → IVec S16 32) a x).toNat < S16360.size a := fun v2271 k0_hw79 => k0_hw79

def k0_chk80 (v2274 : IVec S16 32) : Prop :=
  (∀ a x, ((![v2274] : Fin 1 → IVec S16 32) a x).toNat < S16360.size a)
theorem k0_idx80_inb : ∀ (v2274 : IVec S16 32) (k0_hw80 : k0_chk80 v2274), ∀ a x, ((![v2274] : Fin 1 → IVec S16 32) a x).toNat < S16360.size a := fun v2274 k0_hw80 => k0_hw80

def k0_chk81 (v2277 : IVec S16 32) : Prop :=
  (∀ a x, ((![v2277] : Fin 1 → IVec S16 32) a x).toNat < S16360.size a)
theorem k0_idx81_inb : ∀ (v2277 : IVec S16 32) (k0_hw81 : k0_chk81 v2277), ∀ a x, ((![v2277] : Fin 1 → IVec S16 32) a x).toNat < S16360.size a := fun v2277 k0_hw81 => k0_hw81
def k0_off80 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c304_i32 : BitVec 32 := 304#32
  let v2279 : BitVec 32 := Scalar.addi v114 c304_i32
  let v2280 : Index := Scalar.indexCast v2279
  ![v2280.toNat]
def k0_off81 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_635 : BitVec 32 := 511#32
  let v2282 : BitVec 32 := Scalar.addi v114 c511_i32_635
  let c304_i32_636 : BitVec 32 := 304#32
  let v2283 : BitVec 32 := Scalar.addi v2282 c304_i32_636
  let v2284 : Index := Scalar.indexCast v2283
  ![v2284.toNat]
def k0_off82 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c304_i32_637 : BitVec 32 := 304#32
  let v2286 : BitVec 32 := Scalar.addi v115 c304_i32_637
  let v2287 : Index := Scalar.indexCast v2286
  ![v2287.toNat]
def k0_off83 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c304_i32_638 : BitVec 32 := 304#32
  let v2289 : BitVec 32 := Scalar.addi v115 c304_i32_638
  let c1_i32_639 : BitVec 32 := 1#32
  let v2290 : BitVec 32 := Scalar.addi v2289 c1_i32_639
  let v2291 : Index := Scalar.indexCast v2290
  ![v2291.toNat]

def k0_chk82 (v2381 : IVec S16 32) : Prop :=
  (∀ a x, ((![v2381] : Fin 1 → IVec S16 32) a x).toNat < S16360.size a)
theorem k0_idx82_inb : ∀ (v2381 : IVec S16 32) (k0_hw82 : k0_chk82 v2381), ∀ a x, ((![v2381] : Fin 1 → IVec S16 32) a x).toNat < S16360.size a := fun v2381 k0_hw82 => k0_hw82

def k0_chk83 (v2384 : IVec S16 32) : Prop :=
  (∀ a x, ((![v2384] : Fin 1 → IVec S16 32) a x).toNat < S16360.size a)
theorem k0_idx83_inb : ∀ (v2384 : IVec S16 32) (k0_hw83 : k0_chk83 v2384), ∀ a x, ((![v2384] : Fin 1 → IVec S16 32) a x).toNat < S16360.size a := fun v2384 k0_hw83 => k0_hw83

def k0_chk84 (v2387 : IVec S16 32) : Prop :=
  (∀ a x, ((![v2387] : Fin 1 → IVec S16 32) a x).toNat < S16360.size a)
theorem k0_idx84_inb : ∀ (v2387 : IVec S16 32) (k0_hw84 : k0_chk84 v2387), ∀ a x, ((![v2387] : Fin 1 → IVec S16 32) a x).toNat < S16360.size a := fun v2387 k0_hw84 => k0_hw84

def k0_chk85 (v2390 : IVec S16 32) : Prop :=
  (∀ a x, ((![v2390] : Fin 1 → IVec S16 32) a x).toNat < S16360.size a)
theorem k0_idx85_inb : ∀ (v2390 : IVec S16 32) (k0_hw85 : k0_chk85 v2390), ∀ a x, ((![v2390] : Fin 1 → IVec S16 32) a x).toNat < S16360.size a := fun v2390 k0_hw85 => k0_hw85
def k0_off84 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c320_i32_665 : BitVec 32 := 320#32
  let v2392 : BitVec 32 := Scalar.addi v114 c320_i32_665
  let v2393 : Index := Scalar.indexCast v2392
  ![v2393.toNat]
def k0_off85 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_666 : BitVec 32 := 511#32
  let v2395 : BitVec 32 := Scalar.addi v114 c511_i32_666
  let c320_i32_667 : BitVec 32 := 320#32
  let v2396 : BitVec 32 := Scalar.addi v2395 c320_i32_667
  let v2397 : Index := Scalar.indexCast v2396
  ![v2397.toNat]
def k0_off86 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c320_i32_668 : BitVec 32 := 320#32
  let v2399 : BitVec 32 := Scalar.addi v115 c320_i32_668
  let v2400 : Index := Scalar.indexCast v2399
  ![v2400.toNat]
def k0_off87 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c320_i32_669 : BitVec 32 := 320#32
  let v2402 : BitVec 32 := Scalar.addi v115 c320_i32_669
  let c1_i32_670 : BitVec 32 := 1#32
  let v2403 : BitVec 32 := Scalar.addi v2402 c1_i32_670
  let v2404 : Index := Scalar.indexCast v2403
  ![v2404.toNat]

def k0_chk86 (v2494 : IVec S16 32) : Prop :=
  (∀ a x, ((![v2494] : Fin 1 → IVec S16 32) a x).toNat < S16360.size a)
theorem k0_idx86_inb : ∀ (v2494 : IVec S16 32) (k0_hw86 : k0_chk86 v2494), ∀ a x, ((![v2494] : Fin 1 → IVec S16 32) a x).toNat < S16360.size a := fun v2494 k0_hw86 => k0_hw86

def k0_chk87 (v2497 : IVec S16 32) : Prop :=
  (∀ a x, ((![v2497] : Fin 1 → IVec S16 32) a x).toNat < S16360.size a)
theorem k0_idx87_inb : ∀ (v2497 : IVec S16 32) (k0_hw87 : k0_chk87 v2497), ∀ a x, ((![v2497] : Fin 1 → IVec S16 32) a x).toNat < S16360.size a := fun v2497 k0_hw87 => k0_hw87

def k0_chk88 (v2500 : IVec S16 32) : Prop :=
  (∀ a x, ((![v2500] : Fin 1 → IVec S16 32) a x).toNat < S16360.size a)
theorem k0_idx88_inb : ∀ (v2500 : IVec S16 32) (k0_hw88 : k0_chk88 v2500), ∀ a x, ((![v2500] : Fin 1 → IVec S16 32) a x).toNat < S16360.size a := fun v2500 k0_hw88 => k0_hw88

def k0_chk89 (v2503 : IVec S16 32) : Prop :=
  (∀ a x, ((![v2503] : Fin 1 → IVec S16 32) a x).toNat < S16360.size a)
theorem k0_idx89_inb : ∀ (v2503 : IVec S16 32) (k0_hw89 : k0_chk89 v2503), ∀ a x, ((![v2503] : Fin 1 → IVec S16 32) a x).toNat < S16360.size a := fun v2503 k0_hw89 => k0_hw89
def k0_off88 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c336_i32 : BitVec 32 := 336#32
  let v2505 : BitVec 32 := Scalar.addi v114 c336_i32
  let v2506 : Index := Scalar.indexCast v2505
  ![v2506.toNat]
def k0_off89 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_696 : BitVec 32 := 511#32
  let v2508 : BitVec 32 := Scalar.addi v114 c511_i32_696
  let c336_i32_697 : BitVec 32 := 336#32
  let v2509 : BitVec 32 := Scalar.addi v2508 c336_i32_697
  let v2510 : Index := Scalar.indexCast v2509
  ![v2510.toNat]
def k0_off90 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c336_i32_698 : BitVec 32 := 336#32
  let v2512 : BitVec 32 := Scalar.addi v115 c336_i32_698
  let v2513 : Index := Scalar.indexCast v2512
  ![v2513.toNat]
def k0_off91 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c336_i32_699 : BitVec 32 := 336#32
  let v2515 : BitVec 32 := Scalar.addi v115 c336_i32_699
  let c1_i32_700 : BitVec 32 := 1#32
  let v2516 : BitVec 32 := Scalar.addi v2515 c1_i32_700
  let v2517 : Index := Scalar.indexCast v2516
  ![v2517.toNat]

def k0_chk90 (v2607 : IVec S16 32) : Prop :=
  (∀ a x, ((![v2607] : Fin 1 → IVec S16 32) a x).toNat < S16360.size a)
theorem k0_idx90_inb : ∀ (v2607 : IVec S16 32) (k0_hw90 : k0_chk90 v2607), ∀ a x, ((![v2607] : Fin 1 → IVec S16 32) a x).toNat < S16360.size a := fun v2607 k0_hw90 => k0_hw90

def k0_chk91 (v2610 : IVec S16 32) : Prop :=
  (∀ a x, ((![v2610] : Fin 1 → IVec S16 32) a x).toNat < S16360.size a)
theorem k0_idx91_inb : ∀ (v2610 : IVec S16 32) (k0_hw91 : k0_chk91 v2610), ∀ a x, ((![v2610] : Fin 1 → IVec S16 32) a x).toNat < S16360.size a := fun v2610 k0_hw91 => k0_hw91

def k0_chk92 (v2613 : IVec S16 32) : Prop :=
  (∀ a x, ((![v2613] : Fin 1 → IVec S16 32) a x).toNat < S16360.size a)
theorem k0_idx92_inb : ∀ (v2613 : IVec S16 32) (k0_hw92 : k0_chk92 v2613), ∀ a x, ((![v2613] : Fin 1 → IVec S16 32) a x).toNat < S16360.size a := fun v2613 k0_hw92 => k0_hw92

def k0_chk93 (v2616 : IVec S16 32) : Prop :=
  (∀ a x, ((![v2616] : Fin 1 → IVec S16 32) a x).toNat < S16360.size a)
theorem k0_idx93_inb : ∀ (v2616 : IVec S16 32) (k0_hw93 : k0_chk93 v2616), ∀ a x, ((![v2616] : Fin 1 → IVec S16 32) a x).toNat < S16360.size a := fun v2616 k0_hw93 => k0_hw93
def k0_off92 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c352_i32 : BitVec 32 := 352#32
  let v2618 : BitVec 32 := Scalar.addi v114 c352_i32
  let v2619 : Index := Scalar.indexCast v2618
  ![v2619.toNat]
def k0_off93 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_726 : BitVec 32 := 511#32
  let v2621 : BitVec 32 := Scalar.addi v114 c511_i32_726
  let c352_i32_727 : BitVec 32 := 352#32
  let v2622 : BitVec 32 := Scalar.addi v2621 c352_i32_727
  let v2623 : Index := Scalar.indexCast v2622
  ![v2623.toNat]
def k0_off94 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c352_i32_728 : BitVec 32 := 352#32
  let v2625 : BitVec 32 := Scalar.addi v115 c352_i32_728
  let v2626 : Index := Scalar.indexCast v2625
  ![v2626.toNat]
def k0_off95 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c352_i32_729 : BitVec 32 := 352#32
  let v2628 : BitVec 32 := Scalar.addi v115 c352_i32_729
  let c1_i32_730 : BitVec 32 := 1#32
  let v2629 : BitVec 32 := Scalar.addi v2628 c1_i32_730
  let v2630 : Index := Scalar.indexCast v2629
  ![v2630.toNat]

def k0_chk94 (v2720 : IVec S16 32) : Prop :=
  (∀ a x, ((![v2720] : Fin 1 → IVec S16 32) a x).toNat < S16360.size a)
theorem k0_idx94_inb : ∀ (v2720 : IVec S16 32) (k0_hw94 : k0_chk94 v2720), ∀ a x, ((![v2720] : Fin 1 → IVec S16 32) a x).toNat < S16360.size a := fun v2720 k0_hw94 => k0_hw94

def k0_chk95 (v2723 : IVec S16 32) : Prop :=
  (∀ a x, ((![v2723] : Fin 1 → IVec S16 32) a x).toNat < S16360.size a)
theorem k0_idx95_inb : ∀ (v2723 : IVec S16 32) (k0_hw95 : k0_chk95 v2723), ∀ a x, ((![v2723] : Fin 1 → IVec S16 32) a x).toNat < S16360.size a := fun v2723 k0_hw95 => k0_hw95

def k0_chk96 (v2726 : IVec S16 32) : Prop :=
  (∀ a x, ((![v2726] : Fin 1 → IVec S16 32) a x).toNat < S16360.size a)
theorem k0_idx96_inb : ∀ (v2726 : IVec S16 32) (k0_hw96 : k0_chk96 v2726), ∀ a x, ((![v2726] : Fin 1 → IVec S16 32) a x).toNat < S16360.size a := fun v2726 k0_hw96 => k0_hw96

def k0_chk97 (v2729 : IVec S16 32) : Prop :=
  (∀ a x, ((![v2729] : Fin 1 → IVec S16 32) a x).toNat < S16360.size a)
theorem k0_idx97_inb : ∀ (v2729 : IVec S16 32) (k0_hw97 : k0_chk97 v2729), ∀ a x, ((![v2729] : Fin 1 → IVec S16 32) a x).toNat < S16360.size a := fun v2729 k0_hw97 => k0_hw97
def k0_off96 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c368_i32 : BitVec 32 := 368#32
  let v2731 : BitVec 32 := Scalar.addi v114 c368_i32
  let v2732 : Index := Scalar.indexCast v2731
  ![v2732.toNat]
def k0_off97 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_756 : BitVec 32 := 511#32
  let v2734 : BitVec 32 := Scalar.addi v114 c511_i32_756
  let c368_i32_757 : BitVec 32 := 368#32
  let v2735 : BitVec 32 := Scalar.addi v2734 c368_i32_757
  let v2736 : Index := Scalar.indexCast v2735
  ![v2736.toNat]
def k0_off98 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c368_i32_758 : BitVec 32 := 368#32
  let v2738 : BitVec 32 := Scalar.addi v115 c368_i32_758
  let v2739 : Index := Scalar.indexCast v2738
  ![v2739.toNat]
def k0_off99 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c368_i32_759 : BitVec 32 := 368#32
  let v2741 : BitVec 32 := Scalar.addi v115 c368_i32_759
  let c1_i32_760 : BitVec 32 := 1#32
  let v2742 : BitVec 32 := Scalar.addi v2741 c1_i32_760
  let v2743 : Index := Scalar.indexCast v2742
  ![v2743.toNat]

def k0_chk98 (v2833 : IVec S16 32) : Prop :=
  (∀ a x, ((![v2833] : Fin 1 → IVec S16 32) a x).toNat < S16360.size a)
theorem k0_idx98_inb : ∀ (v2833 : IVec S16 32) (k0_hw98 : k0_chk98 v2833), ∀ a x, ((![v2833] : Fin 1 → IVec S16 32) a x).toNat < S16360.size a := fun v2833 k0_hw98 => k0_hw98

def k0_chk99 (v2836 : IVec S16 32) : Prop :=
  (∀ a x, ((![v2836] : Fin 1 → IVec S16 32) a x).toNat < S16360.size a)
theorem k0_idx99_inb : ∀ (v2836 : IVec S16 32) (k0_hw99 : k0_chk99 v2836), ∀ a x, ((![v2836] : Fin 1 → IVec S16 32) a x).toNat < S16360.size a := fun v2836 k0_hw99 => k0_hw99

def k0_chk100 (v2839 : IVec S16 32) : Prop :=
  (∀ a x, ((![v2839] : Fin 1 → IVec S16 32) a x).toNat < S16360.size a)
theorem k0_idx100_inb : ∀ (v2839 : IVec S16 32) (k0_hw100 : k0_chk100 v2839), ∀ a x, ((![v2839] : Fin 1 → IVec S16 32) a x).toNat < S16360.size a := fun v2839 k0_hw100 => k0_hw100

def k0_chk101 (v2842 : IVec S16 32) : Prop :=
  (∀ a x, ((![v2842] : Fin 1 → IVec S16 32) a x).toNat < S16360.size a)
theorem k0_idx101_inb : ∀ (v2842 : IVec S16 32) (k0_hw101 : k0_chk101 v2842), ∀ a x, ((![v2842] : Fin 1 → IVec S16 32) a x).toNat < S16360.size a := fun v2842 k0_hw101 => k0_hw101
def k0_off100 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c384_i32_786 : BitVec 32 := 384#32
  let v2844 : BitVec 32 := Scalar.addi v114 c384_i32_786
  let v2845 : Index := Scalar.indexCast v2844
  ![v2845.toNat]
def k0_off101 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_787 : BitVec 32 := 511#32
  let v2847 : BitVec 32 := Scalar.addi v114 c511_i32_787
  let c384_i32_788 : BitVec 32 := 384#32
  let v2848 : BitVec 32 := Scalar.addi v2847 c384_i32_788
  let v2849 : Index := Scalar.indexCast v2848
  ![v2849.toNat]
def k0_off102 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c384_i32_789 : BitVec 32 := 384#32
  let v2851 : BitVec 32 := Scalar.addi v115 c384_i32_789
  let v2852 : Index := Scalar.indexCast v2851
  ![v2852.toNat]
def k0_off103 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c384_i32_790 : BitVec 32 := 384#32
  let v2854 : BitVec 32 := Scalar.addi v115 c384_i32_790
  let c1_i32_791 : BitVec 32 := 1#32
  let v2855 : BitVec 32 := Scalar.addi v2854 c1_i32_791
  let v2856 : Index := Scalar.indexCast v2855
  ![v2856.toNat]

def k0_chk102 (v2946 : IVec S16 32) : Prop :=
  (∀ a x, ((![v2946] : Fin 1 → IVec S16 32) a x).toNat < S16360.size a)
theorem k0_idx102_inb : ∀ (v2946 : IVec S16 32) (k0_hw102 : k0_chk102 v2946), ∀ a x, ((![v2946] : Fin 1 → IVec S16 32) a x).toNat < S16360.size a := fun v2946 k0_hw102 => k0_hw102

def k0_chk103 (v2949 : IVec S16 32) : Prop :=
  (∀ a x, ((![v2949] : Fin 1 → IVec S16 32) a x).toNat < S16360.size a)
theorem k0_idx103_inb : ∀ (v2949 : IVec S16 32) (k0_hw103 : k0_chk103 v2949), ∀ a x, ((![v2949] : Fin 1 → IVec S16 32) a x).toNat < S16360.size a := fun v2949 k0_hw103 => k0_hw103

def k0_chk104 (v2952 : IVec S16 32) : Prop :=
  (∀ a x, ((![v2952] : Fin 1 → IVec S16 32) a x).toNat < S16360.size a)
theorem k0_idx104_inb : ∀ (v2952 : IVec S16 32) (k0_hw104 : k0_chk104 v2952), ∀ a x, ((![v2952] : Fin 1 → IVec S16 32) a x).toNat < S16360.size a := fun v2952 k0_hw104 => k0_hw104

def k0_chk105 (v2955 : IVec S16 32) : Prop :=
  (∀ a x, ((![v2955] : Fin 1 → IVec S16 32) a x).toNat < S16360.size a)
theorem k0_idx105_inb : ∀ (v2955 : IVec S16 32) (k0_hw105 : k0_chk105 v2955), ∀ a x, ((![v2955] : Fin 1 → IVec S16 32) a x).toNat < S16360.size a := fun v2955 k0_hw105 => k0_hw105
def k0_off104 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c400_i32 : BitVec 32 := 400#32
  let v2957 : BitVec 32 := Scalar.addi v114 c400_i32
  let v2958 : Index := Scalar.indexCast v2957
  ![v2958.toNat]
def k0_off105 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_817 : BitVec 32 := 511#32
  let v2960 : BitVec 32 := Scalar.addi v114 c511_i32_817
  let c400_i32_818 : BitVec 32 := 400#32
  let v2961 : BitVec 32 := Scalar.addi v2960 c400_i32_818
  let v2962 : Index := Scalar.indexCast v2961
  ![v2962.toNat]
def k0_off106 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c400_i32_819 : BitVec 32 := 400#32
  let v2964 : BitVec 32 := Scalar.addi v115 c400_i32_819
  let v2965 : Index := Scalar.indexCast v2964
  ![v2965.toNat]
def k0_off107 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c400_i32_820 : BitVec 32 := 400#32
  let v2967 : BitVec 32 := Scalar.addi v115 c400_i32_820
  let c1_i32_821 : BitVec 32 := 1#32
  let v2968 : BitVec 32 := Scalar.addi v2967 c1_i32_821
  let v2969 : Index := Scalar.indexCast v2968
  ![v2969.toNat]

def k0_chk106 (v3059 : IVec S16 32) : Prop :=
  (∀ a x, ((![v3059] : Fin 1 → IVec S16 32) a x).toNat < S16360.size a)
theorem k0_idx106_inb : ∀ (v3059 : IVec S16 32) (k0_hw106 : k0_chk106 v3059), ∀ a x, ((![v3059] : Fin 1 → IVec S16 32) a x).toNat < S16360.size a := fun v3059 k0_hw106 => k0_hw106

def k0_chk107 (v3062 : IVec S16 32) : Prop :=
  (∀ a x, ((![v3062] : Fin 1 → IVec S16 32) a x).toNat < S16360.size a)
theorem k0_idx107_inb : ∀ (v3062 : IVec S16 32) (k0_hw107 : k0_chk107 v3062), ∀ a x, ((![v3062] : Fin 1 → IVec S16 32) a x).toNat < S16360.size a := fun v3062 k0_hw107 => k0_hw107

def k0_chk108 (v3065 : IVec S16 32) : Prop :=
  (∀ a x, ((![v3065] : Fin 1 → IVec S16 32) a x).toNat < S16360.size a)
theorem k0_idx108_inb : ∀ (v3065 : IVec S16 32) (k0_hw108 : k0_chk108 v3065), ∀ a x, ((![v3065] : Fin 1 → IVec S16 32) a x).toNat < S16360.size a := fun v3065 k0_hw108 => k0_hw108

def k0_chk109 (v3068 : IVec S16 32) : Prop :=
  (∀ a x, ((![v3068] : Fin 1 → IVec S16 32) a x).toNat < S16360.size a)
theorem k0_idx109_inb : ∀ (v3068 : IVec S16 32) (k0_hw109 : k0_chk109 v3068), ∀ a x, ((![v3068] : Fin 1 → IVec S16 32) a x).toNat < S16360.size a := fun v3068 k0_hw109 => k0_hw109
def k0_off108 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c416_i32 : BitVec 32 := 416#32
  let v3070 : BitVec 32 := Scalar.addi v114 c416_i32
  let v3071 : Index := Scalar.indexCast v3070
  ![v3071.toNat]
def k0_off109 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_847 : BitVec 32 := 511#32
  let v3073 : BitVec 32 := Scalar.addi v114 c511_i32_847
  let c416_i32_848 : BitVec 32 := 416#32
  let v3074 : BitVec 32 := Scalar.addi v3073 c416_i32_848
  let v3075 : Index := Scalar.indexCast v3074
  ![v3075.toNat]
def k0_off110 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c416_i32_849 : BitVec 32 := 416#32
  let v3077 : BitVec 32 := Scalar.addi v115 c416_i32_849
  let v3078 : Index := Scalar.indexCast v3077
  ![v3078.toNat]
def k0_off111 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c416_i32_850 : BitVec 32 := 416#32
  let v3080 : BitVec 32 := Scalar.addi v115 c416_i32_850
  let c1_i32_851 : BitVec 32 := 1#32
  let v3081 : BitVec 32 := Scalar.addi v3080 c1_i32_851
  let v3082 : Index := Scalar.indexCast v3081
  ![v3082.toNat]

def k0_chk110 (v3172 : IVec S16 32) : Prop :=
  (∀ a x, ((![v3172] : Fin 1 → IVec S16 32) a x).toNat < S16360.size a)
theorem k0_idx110_inb : ∀ (v3172 : IVec S16 32) (k0_hw110 : k0_chk110 v3172), ∀ a x, ((![v3172] : Fin 1 → IVec S16 32) a x).toNat < S16360.size a := fun v3172 k0_hw110 => k0_hw110

def k0_chk111 (v3175 : IVec S16 32) : Prop :=
  (∀ a x, ((![v3175] : Fin 1 → IVec S16 32) a x).toNat < S16360.size a)
theorem k0_idx111_inb : ∀ (v3175 : IVec S16 32) (k0_hw111 : k0_chk111 v3175), ∀ a x, ((![v3175] : Fin 1 → IVec S16 32) a x).toNat < S16360.size a := fun v3175 k0_hw111 => k0_hw111

def k0_chk112 (v3178 : IVec S16 32) : Prop :=
  (∀ a x, ((![v3178] : Fin 1 → IVec S16 32) a x).toNat < S16360.size a)
theorem k0_idx112_inb : ∀ (v3178 : IVec S16 32) (k0_hw112 : k0_chk112 v3178), ∀ a x, ((![v3178] : Fin 1 → IVec S16 32) a x).toNat < S16360.size a := fun v3178 k0_hw112 => k0_hw112

def k0_chk113 (v3181 : IVec S16 32) : Prop :=
  (∀ a x, ((![v3181] : Fin 1 → IVec S16 32) a x).toNat < S16360.size a)
theorem k0_idx113_inb : ∀ (v3181 : IVec S16 32) (k0_hw113 : k0_chk113 v3181), ∀ a x, ((![v3181] : Fin 1 → IVec S16 32) a x).toNat < S16360.size a := fun v3181 k0_hw113 => k0_hw113
def k0_off112 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c432_i32 : BitVec 32 := 432#32
  let v3183 : BitVec 32 := Scalar.addi v114 c432_i32
  let v3184 : Index := Scalar.indexCast v3183
  ![v3184.toNat]
def k0_off113 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_877 : BitVec 32 := 511#32
  let v3186 : BitVec 32 := Scalar.addi v114 c511_i32_877
  let c432_i32_878 : BitVec 32 := 432#32
  let v3187 : BitVec 32 := Scalar.addi v3186 c432_i32_878
  let v3188 : Index := Scalar.indexCast v3187
  ![v3188.toNat]
def k0_off114 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c432_i32_879 : BitVec 32 := 432#32
  let v3190 : BitVec 32 := Scalar.addi v115 c432_i32_879
  let v3191 : Index := Scalar.indexCast v3190
  ![v3191.toNat]
def k0_off115 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c432_i32_880 : BitVec 32 := 432#32
  let v3193 : BitVec 32 := Scalar.addi v115 c432_i32_880
  let c1_i32_881 : BitVec 32 := 1#32
  let v3194 : BitVec 32 := Scalar.addi v3193 c1_i32_881
  let v3195 : Index := Scalar.indexCast v3194
  ![v3195.toNat]

def k0_chk114 (v3285 : IVec S16 32) : Prop :=
  (∀ a x, ((![v3285] : Fin 1 → IVec S16 32) a x).toNat < S16360.size a)
theorem k0_idx114_inb : ∀ (v3285 : IVec S16 32) (k0_hw114 : k0_chk114 v3285), ∀ a x, ((![v3285] : Fin 1 → IVec S16 32) a x).toNat < S16360.size a := fun v3285 k0_hw114 => k0_hw114

def k0_chk115 (v3288 : IVec S16 32) : Prop :=
  (∀ a x, ((![v3288] : Fin 1 → IVec S16 32) a x).toNat < S16360.size a)
theorem k0_idx115_inb : ∀ (v3288 : IVec S16 32) (k0_hw115 : k0_chk115 v3288), ∀ a x, ((![v3288] : Fin 1 → IVec S16 32) a x).toNat < S16360.size a := fun v3288 k0_hw115 => k0_hw115

def k0_chk116 (v3291 : IVec S16 32) : Prop :=
  (∀ a x, ((![v3291] : Fin 1 → IVec S16 32) a x).toNat < S16360.size a)
theorem k0_idx116_inb : ∀ (v3291 : IVec S16 32) (k0_hw116 : k0_chk116 v3291), ∀ a x, ((![v3291] : Fin 1 → IVec S16 32) a x).toNat < S16360.size a := fun v3291 k0_hw116 => k0_hw116

def k0_chk117 (v3294 : IVec S16 32) : Prop :=
  (∀ a x, ((![v3294] : Fin 1 → IVec S16 32) a x).toNat < S16360.size a)
theorem k0_idx117_inb : ∀ (v3294 : IVec S16 32) (k0_hw117 : k0_chk117 v3294), ∀ a x, ((![v3294] : Fin 1 → IVec S16 32) a x).toNat < S16360.size a := fun v3294 k0_hw117 => k0_hw117
def k0_off116 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c448_i32_907 : BitVec 32 := 448#32
  let v3296 : BitVec 32 := Scalar.addi v114 c448_i32_907
  let v3297 : Index := Scalar.indexCast v3296
  ![v3297.toNat]
def k0_off117 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_908 : BitVec 32 := 511#32
  let v3299 : BitVec 32 := Scalar.addi v114 c511_i32_908
  let c448_i32_909 : BitVec 32 := 448#32
  let v3300 : BitVec 32 := Scalar.addi v3299 c448_i32_909
  let v3301 : Index := Scalar.indexCast v3300
  ![v3301.toNat]
def k0_off118 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c448_i32_910 : BitVec 32 := 448#32
  let v3303 : BitVec 32 := Scalar.addi v115 c448_i32_910
  let v3304 : Index := Scalar.indexCast v3303
  ![v3304.toNat]
def k0_off119 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c448_i32_911 : BitVec 32 := 448#32
  let v3306 : BitVec 32 := Scalar.addi v115 c448_i32_911
  let c1_i32_912 : BitVec 32 := 1#32
  let v3307 : BitVec 32 := Scalar.addi v3306 c1_i32_912
  let v3308 : Index := Scalar.indexCast v3307
  ![v3308.toNat]

def k0_chk118 (v3398 : IVec S16 32) : Prop :=
  (∀ a x, ((![v3398] : Fin 1 → IVec S16 32) a x).toNat < S16360.size a)
theorem k0_idx118_inb : ∀ (v3398 : IVec S16 32) (k0_hw118 : k0_chk118 v3398), ∀ a x, ((![v3398] : Fin 1 → IVec S16 32) a x).toNat < S16360.size a := fun v3398 k0_hw118 => k0_hw118

def k0_chk119 (v3401 : IVec S16 32) : Prop :=
  (∀ a x, ((![v3401] : Fin 1 → IVec S16 32) a x).toNat < S16360.size a)
theorem k0_idx119_inb : ∀ (v3401 : IVec S16 32) (k0_hw119 : k0_chk119 v3401), ∀ a x, ((![v3401] : Fin 1 → IVec S16 32) a x).toNat < S16360.size a := fun v3401 k0_hw119 => k0_hw119

def k0_chk120 (v3404 : IVec S16 32) : Prop :=
  (∀ a x, ((![v3404] : Fin 1 → IVec S16 32) a x).toNat < S16360.size a)
theorem k0_idx120_inb : ∀ (v3404 : IVec S16 32) (k0_hw120 : k0_chk120 v3404), ∀ a x, ((![v3404] : Fin 1 → IVec S16 32) a x).toNat < S16360.size a := fun v3404 k0_hw120 => k0_hw120

def k0_chk121 (v3407 : IVec S16 32) : Prop :=
  (∀ a x, ((![v3407] : Fin 1 → IVec S16 32) a x).toNat < S16360.size a)
theorem k0_idx121_inb : ∀ (v3407 : IVec S16 32) (k0_hw121 : k0_chk121 v3407), ∀ a x, ((![v3407] : Fin 1 → IVec S16 32) a x).toNat < S16360.size a := fun v3407 k0_hw121 => k0_hw121
def k0_off120 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c464_i32 : BitVec 32 := 464#32
  let v3409 : BitVec 32 := Scalar.addi v114 c464_i32
  let v3410 : Index := Scalar.indexCast v3409
  ![v3410.toNat]
def k0_off121 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_938 : BitVec 32 := 511#32
  let v3412 : BitVec 32 := Scalar.addi v114 c511_i32_938
  let c464_i32_939 : BitVec 32 := 464#32
  let v3413 : BitVec 32 := Scalar.addi v3412 c464_i32_939
  let v3414 : Index := Scalar.indexCast v3413
  ![v3414.toNat]
def k0_off122 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c464_i32_940 : BitVec 32 := 464#32
  let v3416 : BitVec 32 := Scalar.addi v115 c464_i32_940
  let v3417 : Index := Scalar.indexCast v3416
  ![v3417.toNat]
def k0_off123 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c464_i32_941 : BitVec 32 := 464#32
  let v3419 : BitVec 32 := Scalar.addi v115 c464_i32_941
  let c1_i32_942 : BitVec 32 := 1#32
  let v3420 : BitVec 32 := Scalar.addi v3419 c1_i32_942
  let v3421 : Index := Scalar.indexCast v3420
  ![v3421.toNat]

def k0_chk122 (v3511 : IVec S16 32) : Prop :=
  (∀ a x, ((![v3511] : Fin 1 → IVec S16 32) a x).toNat < S16360.size a)
theorem k0_idx122_inb : ∀ (v3511 : IVec S16 32) (k0_hw122 : k0_chk122 v3511), ∀ a x, ((![v3511] : Fin 1 → IVec S16 32) a x).toNat < S16360.size a := fun v3511 k0_hw122 => k0_hw122

def k0_chk123 (v3514 : IVec S16 32) : Prop :=
  (∀ a x, ((![v3514] : Fin 1 → IVec S16 32) a x).toNat < S16360.size a)
theorem k0_idx123_inb : ∀ (v3514 : IVec S16 32) (k0_hw123 : k0_chk123 v3514), ∀ a x, ((![v3514] : Fin 1 → IVec S16 32) a x).toNat < S16360.size a := fun v3514 k0_hw123 => k0_hw123

def k0_chk124 (v3517 : IVec S16 32) : Prop :=
  (∀ a x, ((![v3517] : Fin 1 → IVec S16 32) a x).toNat < S16360.size a)
theorem k0_idx124_inb : ∀ (v3517 : IVec S16 32) (k0_hw124 : k0_chk124 v3517), ∀ a x, ((![v3517] : Fin 1 → IVec S16 32) a x).toNat < S16360.size a := fun v3517 k0_hw124 => k0_hw124

def k0_chk125 (v3520 : IVec S16 32) : Prop :=
  (∀ a x, ((![v3520] : Fin 1 → IVec S16 32) a x).toNat < S16360.size a)
theorem k0_idx125_inb : ∀ (v3520 : IVec S16 32) (k0_hw125 : k0_chk125 v3520), ∀ a x, ((![v3520] : Fin 1 → IVec S16 32) a x).toNat < S16360.size a := fun v3520 k0_hw125 => k0_hw125
def k0_off124 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c480_i32 : BitVec 32 := 480#32
  let v3522 : BitVec 32 := Scalar.addi v114 c480_i32
  let v3523 : Index := Scalar.indexCast v3522
  ![v3523.toNat]
def k0_off125 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_968 : BitVec 32 := 511#32
  let v3525 : BitVec 32 := Scalar.addi v114 c511_i32_968
  let c480_i32_969 : BitVec 32 := 480#32
  let v3526 : BitVec 32 := Scalar.addi v3525 c480_i32_969
  let v3527 : Index := Scalar.indexCast v3526
  ![v3527.toNat]
def k0_off126 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c480_i32_970 : BitVec 32 := 480#32
  let v3529 : BitVec 32 := Scalar.addi v115 c480_i32_970
  let v3530 : Index := Scalar.indexCast v3529
  ![v3530.toNat]
def k0_off127 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c480_i32_971 : BitVec 32 := 480#32
  let v3532 : BitVec 32 := Scalar.addi v115 c480_i32_971
  let c1_i32_972 : BitVec 32 := 1#32
  let v3533 : BitVec 32 := Scalar.addi v3532 c1_i32_972
  let v3534 : Index := Scalar.indexCast v3533
  ![v3534.toNat]

def k0_chk126 (v3624 : IVec S16 32) : Prop :=
  (∀ a x, ((![v3624] : Fin 1 → IVec S16 32) a x).toNat < S16360.size a)
theorem k0_idx126_inb : ∀ (v3624 : IVec S16 32) (k0_hw126 : k0_chk126 v3624), ∀ a x, ((![v3624] : Fin 1 → IVec S16 32) a x).toNat < S16360.size a := fun v3624 k0_hw126 => k0_hw126

def k0_chk127 (v3627 : IVec S16 32) : Prop :=
  (∀ a x, ((![v3627] : Fin 1 → IVec S16 32) a x).toNat < S16360.size a)
theorem k0_idx127_inb : ∀ (v3627 : IVec S16 32) (k0_hw127 : k0_chk127 v3627), ∀ a x, ((![v3627] : Fin 1 → IVec S16 32) a x).toNat < S16360.size a := fun v3627 k0_hw127 => k0_hw127

def k0_chk128 (v3630 : IVec S16 32) : Prop :=
  (∀ a x, ((![v3630] : Fin 1 → IVec S16 32) a x).toNat < S16360.size a)
theorem k0_idx128_inb : ∀ (v3630 : IVec S16 32) (k0_hw128 : k0_chk128 v3630), ∀ a x, ((![v3630] : Fin 1 → IVec S16 32) a x).toNat < S16360.size a := fun v3630 k0_hw128 => k0_hw128

def k0_chk129 (v3633 : IVec S16 32) : Prop :=
  (∀ a x, ((![v3633] : Fin 1 → IVec S16 32) a x).toNat < S16360.size a)
theorem k0_idx129_inb : ∀ (v3633 : IVec S16 32) (k0_hw129 : k0_chk129 v3633), ∀ a x, ((![v3633] : Fin 1 → IVec S16 32) a x).toNat < S16360.size a := fun v3633 k0_hw129 => k0_hw129
def k0_off128 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c495_i32 : BitVec 32 := 495#32
  let v3635 : BitVec 32 := Scalar.addi v114 c495_i32
  let v3636 : Index := Scalar.indexCast v3635
  ![v3636.toNat]
def k0_off129 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c511_i32 : BitVec 32 := 511#32
  let v40 : BitVec 32 := Scalar.muli v39 c511_i32
  let c7_i32 : BitVec 32 := 7#32
  let v41 : BitVec 32 := Scalar.andi v40 c7_i32
  let c0_i32_37 : BitVec 32 := 0#32
  let c1_i32_39 : BitVec 32 := 1#32
  let arg22 : BitVec 32 := Scf.iv c0_i32_37 c1_i32_39 k0_t2
  let c511_i32_52 : BitVec 32 := 511#32
  let v113 : BitVec 32 := Scalar.muli arg22 c511_i32_52
  let v114 : BitVec 32 := Scalar.addi v41 v113
  let c511_i32_998 : BitVec 32 := 511#32
  let v3638 : BitVec 32 := Scalar.addi v114 c511_i32_998
  let c495_i32_999 : BitVec 32 := 495#32
  let v3639 : BitVec 32 := Scalar.addi v3638 c495_i32_999
  let v3640 : Index := Scalar.indexCast v3639
  ![v3640.toNat]
def k0_off130 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c495_i32_1000 : BitVec 32 := 495#32
  let v3642 : BitVec 32 := Scalar.addi v115 c495_i32_1000
  let v3643 : Index := Scalar.indexCast v3642
  ![v3643.toNat]
def k0_off131 (k0_t2 : Fin k0_t2_loop.trips) : Fin 1 → Nat :=
  let c0_i32_37 : BitVec 32 := 0#32
  let c1_i32_39 : BitVec 32 := 1#32
  let arg22 : BitVec 32 := Scf.iv c0_i32_37 c1_i32_39 k0_t2
  let c512_i32_53 : BitVec 32 := 512#32
  let v115 : BitVec 32 := Scalar.muli arg22 c512_i32_53
  let c495_i32_1001 : BitVec 32 := 495#32
  let v3645 : BitVec 32 := Scalar.addi v115 c495_i32_1001
  let c1_i32_1002 : BitVec 32 := 1#32
  let v3646 : BitVec 32 := Scalar.addi v3645 c1_i32_1002
  let v3647 : Index := Scalar.indexCast v3646
  ![v3647.toNat]
def k0_mult10 (i : grid0.Coords) (k0_t1 : Fin k0_t1_loop.trips) : BitVec 32 :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c261632_i32_41 : BitVec 32 := 261632#32
  let v93 : BitVec 32 := Scalar.muli v18 c261632_i32_41
  let v94 : BitVec 32 := Scalar.addi c0_i32_42 v93
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c512_i32_43 : BitVec 32 := 512#32
  let v95 : BitVec 32 := Scalar.muli v39 c512_i32_43
  let v96 : BitVec 32 := Scalar.addi v94 v95
  v96
def k0_off132 (i : grid0.Coords) (k0_t1 : Fin k0_t1_loop.trips) (c0_i32_42 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c261632_i32_41 : BitVec 32 := 261632#32
  let v93 : BitVec 32 := Scalar.muli v18 c261632_i32_41
  let v94 : BitVec 32 := Scalar.addi c0_i32_42 v93
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c512_i32_43 : BitVec 32 := 512#32
  let v95 : BitVec 32 := Scalar.muli v39 c512_i32_43
  let v96 : BitVec 32 := Scalar.addi v94 v95
  let v97 : BitVec 32 := v96
  ![v97.toNat]
def k0_mult11 (i : grid0.Coords) (k0_t1 : Fin k0_t1_loop.trips) : BitVec 32 :=
  let c1046528_i32 : BitVec 32 := 1046528#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c261632_i32_44 : BitVec 32 := 261632#32
  let v98 : BitVec 32 := Scalar.muli v18 c261632_i32_44
  let v99 : BitVec 32 := Scalar.addi c1046528_i32 v98
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c512_i32_45 : BitVec 32 := 512#32
  let v100 : BitVec 32 := Scalar.muli v39 c512_i32_45
  let v101 : BitVec 32 := Scalar.addi v99 v100
  v101
def k0_mult12 (i : grid0.Coords) (k0_t1 : Fin k0_t1_loop.trips) : BitVec 32 :=
  let c2093056_i32_47 : BitVec 32 := 2093056#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c261632_i32_46 : BitVec 32 := 261632#32
  let v103 : BitVec 32 := Scalar.muli v18 c261632_i32_46
  let v104 : BitVec 32 := Scalar.addi c2093056_i32_47 v103
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c512_i32_48 : BitVec 32 := 512#32
  let v105 : BitVec 32 := Scalar.muli v39 c512_i32_48
  let v106 : BitVec 32 := Scalar.addi v104 v105
  v106
def k0_mult13 (i : grid0.Coords) (k0_t1 : Fin k0_t1_loop.trips) : BitVec 32 :=
  let c3139584_i32 : BitVec 32 := 3139584#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c261632_i32_49 : BitVec 32 := 261632#32
  let v108 : BitVec 32 := Scalar.muli v18 c261632_i32_49
  let v109 : BitVec 32 := Scalar.addi c3139584_i32 v108
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v36 : BitVec 32 := Scalar.muli v28 c64_i32
  let c8_i32_15 : BitVec 32 := 8#32
  let c0_i32_11 : BitVec 32 := 0#32
  let c1_i32_13 : BitVec 32 := 1#32
  let arg20 : BitVec 32 := Scf.iv c0_i32_11 c1_i32_13 k0_t1
  let v37 : BitVec 32 := Scalar.muli c8_i32_15 arg20
  let v38 : BitVec 32 := Scalar.addi v36 v37
  let c503_i32 : BitVec 32 := 503#32
  let v39 : BitVec 32 := Scalar.minsi v38 c503_i32
  let c512_i32_50 : BitVec 32 := 512#32
  let v110 : BitVec 32 := Scalar.muli v39 c512_i32_50
  let v111 : BitVec 32 := Scalar.addi v109 v110
  v111
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4x523264 : Shape := ⟨3, ![4, 4, 523264]⟩
abbrev S4x1044484 : Shape := ⟨2, ![4, 1044484]⟩
abbrev S4 : Shape := ⟨1, ![4]⟩
abbrev S1044484 : Shape := ⟨1, ![1044484]⟩
abbrev S_ : Shape := ⟨0, ![]⟩
abbrev S1044484x1 : Shape := ⟨2, ![1044484, 1]⟩
abbrev S4x4x1044484 : Shape := ⟨3, ![4, 4, 1044484]⟩
abbrev S1x4x1044484 : Shape := ⟨3, ![1, 4, 1044484]⟩
abbrev S4x4x261121 : Shape := ⟨3, ![4, 4, 261121]⟩
abbrev S1x4x1 : Shape := ⟨3, ![1, 4, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x4x523264, .f32⟩
  | .hbm, ⟨1, _⟩ => ⟨S4x1044484, .f32⟩
  | .hbm, ⟨2, _⟩ => ⟨S4, .f32⟩
  | .hbm, ⟨3, _⟩ => ⟨S1044484, .i32⟩
  | .hbm, ⟨4, _⟩ => ⟨S1044484, .i32⟩
  | .hbm, ⟨5, _⟩ => ⟨S_, .i32⟩
  | .hbm, ⟨6, _⟩ => ⟨S1044484, .i32⟩
  | .hbm, ⟨7, _⟩ => ⟨S1044484, .i1⟩
  | .hbm, ⟨8, _⟩ => ⟨S_, .i32⟩
  | .hbm, ⟨9, _⟩ => ⟨S1044484, .i32⟩
  | .hbm, ⟨10, _⟩ => ⟨S1044484, .i32⟩
  | .hbm, ⟨11, _⟩ => ⟨S1044484, .i32⟩
  | .hbm, ⟨12, _⟩ => ⟨S1044484x1, .i32⟩
  | .hbm, ⟨13, _⟩ => ⟨S4x4x1044484, .f32⟩
  | .hbm, ⟨14, _⟩ => ⟨S1x4x1044484, .f32⟩
  | .hbm, ⟨15, _⟩ => ⟨S4x4x1044484, .f32⟩
  | .hbm, ⟨16, _⟩ => ⟨S4x4x1044484, .f32⟩
  | .hbm, ⟨17, _⟩ => ⟨S_, .f32⟩
  | .hbm, ⟨18, _⟩ => ⟨S4x4x261121, .f32⟩
  | .hbm, ⟨19, _⟩ => ⟨S_, .i32⟩
  | .hbm, ⟨20, _⟩ => ⟨S1044484, .i32⟩
  | .hbm, ⟨21, _⟩ => ⟨S1044484, .i1⟩
  | .hbm, ⟨22, _⟩ => ⟨S_, .i32⟩
  | .hbm, ⟨23, _⟩ => ⟨S1044484, .i32⟩
  | .hbm, ⟨24, _⟩ => ⟨S1044484, .i32⟩
  | .hbm, ⟨25, _⟩ => ⟨S1044484, .i32⟩
  | .hbm, ⟨26, _⟩ => ⟨S1044484x1, .i32⟩
  | .hbm, ⟨27, _⟩ => ⟨S4x4x261121, .f32⟩
  | .hbm, ⟨28, _⟩ => ⟨S1x4x1, .f32⟩
  | .hbm, ⟨29, _⟩ => ⟨S4x4x261121, .f32⟩
  | .hbm, ⟨30, _⟩ => ⟨S4x4x261121, .f32⟩
  | _, _ => ⟨S4x4x523264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.Words.lean ====
/-
  The kernel's scalars in plain numbers: a tile's channel and segment, a chunk's first row, where the chunk's edges, weights
  and results lie in the big arrays, and where a row's column group lies in the tile's own buffers.
-/
module

public import proofs.«01_k».proof.KernelIdeal

@[expose] public section

noncomputable section

namespace Cert.Proof.Words

open Cert.KernelIdeal
open Idealize.ShloMosaic Idealize.SL.Sem

section
variable [Facts]
open Facts₀

/-- Four times the lane number. -/
def lanes4 : IVec S16 32 := muli (iota .scVector S16 32 [0] iota_S16_d0_w32_scVector) (broadcast S16 4#32)

end

/-- The first column of group `g`, and four times it, as words. -/
def colW (g : Fin 32) : BitVec 32 := BitVec.ofNat 32 (min (16 * g.val) 495)
def colW4 (g : Fin 32) : BitVec 32 := BitVec.ofNat 32 (4 * min (16 * g.val) 495)

/-- The tile's segment of a channel, as the kernel computes it. -/
def segW (i : grid0.Coords) : BitVec 32 :=
  let v1 := Scalar.addi (Scalar.muli (BitVec.ofNat 32 (i 1).val) 2#32) (BitVec.ofNat 32 (i 0).val)
  let v20 : BitVec 32 := Scalar.select (Scalar.cmpi .eq 8#32 0#32) 1#32 8#32
  let v21 := Scalar.remsi v1 v20
  Scalar.select (Scalar.andi (Scalar.xori (Scalar.cmpi .slt v21 0#32) (Scalar.cmpi .slt v20 0#32)) (Scalar.cmpi .ne v21 0#32))
    (Scalar.addi v21 v20) v21
/-- The first row of the chunk. -/
def rowW (i : grid0.Coords) (t1 : Fin k0_t1_loop.trips) : BitVec 32 :=
  Scalar.minsi (Scalar.addi (Scalar.muli (segW i) 64#32) (Scalar.muli 8#32 (Scf.iv 0#32 1#32 t1))) 503#32
/-- The tile's channel, as the kernel computes it. -/
def chW (i : grid0.Coords) : BitVec 32 :=
  let v1 := Scalar.addi (Scalar.muli (BitVec.ofNat 32 (i 1).val) 2#32) (BitVec.ofNat 32 (i 0).val)
  let v2 := Scalar.divsi v1 8#32
  let v7 : BitVec 32 := Scalar.subi (Scalar.extui (Scalar.cmpi .sgt v1 0#32)) (Scalar.extui (Scalar.cmpi .slt v1 0#32))
  let v12 : BitVec 32 := Scalar.subi (Scalar.extui (Scalar.cmpi .sgt 8#32 0#32)) (Scalar.extui (Scalar.cmpi .slt 8#32 0#32))
  let v15 := Scalar.cmpi .ne (Scalar.remsi v1 8#32) 0#32
  Scalar.select (Scalar.andi (Scalar.cmpi .ne v7 v12) v15) (Scalar.subi v2 1#32) v2
/-- The chunk's first weight among all the weights, and where the chunk's weights begin in their buffer. -/
def wW (i : grid0.Coords) (t1 : Fin k0_t1_loop.trips) : BitVec 32 :=
  Scalar.addi (Scalar.muli (chW i) 1044484#32) (Scalar.muli 4#32 (Scalar.muli (rowW i t1) 511#32))
def dwW (i : grid0.Coords) (t1 : Fin k0_t1_loop.trips) : BitVec 32 :=
  Scalar.subi (wW i t1) (Scalar.minsi (Scalar.subi (wW i t1) (Scalar.andi (wW i t1) 7#32)) 4161576#32)
/-- Where row `t2` begins in the chunk's horizontal edges, and in its vertical ones. -/
def hW (i : grid0.Coords) (t1 : Fin k0_t1_loop.trips) (t2 : Fin k0_t2_loop.trips) : BitVec 32 :=
  Scalar.addi (Scalar.andi (Scalar.muli (rowW i t1) 511#32) 7#32) (Scalar.muli (Scf.iv 0#32 1#32 t2) 511#32)
def vW (t2 : Fin k0_t2_loop.trips) : BitVec 32 := Scalar.muli (Scf.iv 0#32 1#32 t2) 512#32

/-- The four loads' offsets in column group `g`: the edges above and below, left and right. -/
def hOff0 (i : grid0.Coords) (t1 : Fin k0_t1_loop.trips) (t2 : Fin k0_t2_loop.trips) (g : Fin 32) : Fin 1 → ℕ :=
  ![(Scalar.indexCast (Scalar.addi (hW i t1 t2) (colW g)) : Index).toNat]
def hOff1 (i : grid0.Coords) (t1 : Fin k0_t1_loop.trips) (t2 : Fin k0_t2_loop.trips) (g : Fin 32) : Fin 1 → ℕ :=
  ![(Scalar.indexCast (Scalar.addi (Scalar.addi (hW i t1 t2) 511#32) (colW g)) : Index).toNat]
def vOff0 (t2 : Fin k0_t2_loop.trips) (g : Fin 32) : Fin 1 → ℕ :=
  ![(Scalar.indexCast (Scalar.addi (vW t2) (colW g)) : Index).toNat]
def vOff1 (t2 : Fin k0_t2_loop.trips) (g : Fin 32) : Fin 1 → ℕ :=
  ![(Scalar.indexCast (Scalar.addi (Scalar.addi (vW t2) (colW g)) 1#32) : Index).toNat]

/-! ## In numbers -/

/-- The tile's number, its channel and its segment. -/
def wid (i : grid0.Coords) : ℕ := 2 * (i 1).val + (i 0).val
def chN (i : grid0.Coords) : ℕ := wid i / 8
def segN (i : grid0.Coords) : ℕ := wid i % 8
/-- The chunk's first row; where its horizontal edges begin, after rounding down to a multiple of 8, and how much was
    rounded off; the same of its weights (which also stay clear of the array's end). -/
def rowN (i : grid0.Coords) (t1 : Fin k0_t1_loop.trips) : ℕ := min (64 * segN i + 8 * t1.val) 503
def dhN (i : grid0.Coords) (t1 : Fin k0_t1_loop.trips) : ℕ := 511 * rowN i t1 % 8
def wofN (i : grid0.Coords) (t1 : Fin k0_t1_loop.trips) : ℕ := 1044484 * chN i + 2044 * rowN i t1
def w8N (i : grid0.Coords) (t1 : Fin k0_t1_loop.trips) : ℕ := min (wofN i t1 - wofN i t1 % 8) 4161576
def dwN (i : grid0.Coords) (t1 : Fin k0_t1_loop.trips) : ℕ := wofN i t1 - w8N i t1
/-- Column group `g`'s first column. -/
def colN (g : Fin 32) : ℕ := min (16 * g.val) 495

theorem wid_lt (i : grid0.Coords) : wid i < 32 := by
  have h0 : (i 0).val < 2 := (i 0).isLt
  have h1 : (i 1).val < 16 := (i 1).isLt
  unfold wid; omega
theorem chN_lt (i : grid0.Coords) : chN i < 4 := by have := wid_lt i; unfold chN; omega
theorem segN_lt (i : grid0.Coords) : segN i < 8 := by unfold segN; omega
theorem rowN_le (i t1) : rowN i t1 ≤ 503 := by unfold rowN; omega
theorem dhN_lt (i t1) : dhN i t1 < 8 := by unfold dhN; omega
theorem trips1 : k0_t1_loop.trips = 8 := by decide +kernel
theorem trips2 : k0_t2_loop.trips = 8 := by decide +kernel
theorem lt1 (t : Fin k0_t1_loop.trips) : t.val < 8 := trips1 ▸ t.isLt
theorem lt2 (t : Fin k0_t2_loop.trips) : t.val < 8 := trips2 ▸ t.isLt
theorem w8N_le (i t1) : w8N i t1 ≤ wofN i t1 := by unfold w8N; omega
theorem dwN_le (i t1) : dwN i t1 ≤ 8 := by
  have := chN_lt i; have := rowN_le i t1
  have h : wofN i t1 ≤ 4161576 + 8 := by unfold wofN; omega
  unfold dwN w8N; omega
theorem colN_le (g) : colN g ≤ 495 := by unfold colN; omega

theorem chW_eq : ∀ i : grid0.Coords, chW i = BitVec.ofNat 32 (chN i) := by decide +kernel
theorem dwW_toNat : ∀ (i : grid0.Coords) t1, (dwW i t1).toNat = dwN i t1 := by decide +kernel
theorem hW_toNat : ∀ (i : grid0.Coords) t1 t2, (hW i t1 t2).toNat = dhN i t1 + 511 * t2.val := by decide +kernel
theorem vW_toNat : ∀ t2, (vW t2).toNat = 512 * t2.val := by decide +kernel
theorem rW_toNat : ∀ t2 : Fin k0_t2_loop.trips, (Scalar.muli (Scf.iv 0#32 1#32 t2) 2044#32).toNat = 2044 * t2.val := by decide +kernel
theorem colW_toNat : ∀ g, (colW g).toNat = colN g := by decide +kernel
theorem colW4_toNat : ∀ g, (colW4 g).toNat = 4 * colN g := by decide +kernel
theorem off1_eq : ∀ (i : grid0.Coords) t1 (r : Fin 4), k0_off1 i t1 (BitVec.ofNat 32 (2093056 * r.val)) 0
    = 2093056 * r.val + 523264 * chN i + (511 * rowN i t1 - dhN i t1) := by decide +kernel
theorem off2_eq : ∀ (i : grid0.Coords) t1 (r : Fin 4), k0_off2 i t1 (BitVec.ofNat 32 (2093056 * r.val)) 0
    = 2093056 * r.val + 523264 * chN i + 261632 + 512 * rowN i t1 := by decide +kernel
theorem off3_eq : ∀ (i : grid0.Coords) t1, k0_off3 i t1 0 = w8N i t1 := by decide +kernel
theorem off132_eq : ∀ (i : grid0.Coords) t1 (r : Fin 4), k0_off132 i t1 (BitVec.ofNat 32 (1046528 * r.val)) 0
    = 1046528 * r.val + 261632 * chN i + 512 * rowN i t1 := by decide +kernel

theorem hOff0_eq (i t1 t2 g) : hOff0 i t1 t2 g 0 = dhN i t1 + 511 * t2.val + colN g := by
  show (hW i t1 t2 + colW g).toNat = _
  rw [BitVec.toNat_add, hW_toNat, colW_toNat]
  have := dhN_lt i t1; have := lt2 t2; have := colN_le g; omega
theorem hOff1_eq (i t1 t2 g) : hOff1 i t1 t2 g 0 = dhN i t1 + 511 * (t2.val + 1) + colN g := by
  show (hW i t1 t2 + 511#32 + colW g).toNat = _
  rw [BitVec.toNat_add, BitVec.toNat_add, hW_toNat, colW_toNat, show (511#32).toNat = 511 from rfl]
  have := dhN_lt i t1; have := lt2 t2; have := colN_le g; omega
theorem vOff0_eq (t2 g) : vOff0 t2 g 0 = 512 * t2.val + colN g := by
  show (vW t2 + colW g).toNat = _
  rw [BitVec.toNat_add, vW_toNat, colW_toNat]
  have := lt2 t2; have := colN_le g; omega
theorem vOff1_eq (t2 g) : vOff1 t2 g 0 = 512 * t2.val + colN g + 1 := by
  show (vW t2 + colW g + 1#32).toNat = _
  rw [BitVec.toNat_add, BitVec.toNat_add, vW_toNat, colW_toNat, show (1#32).toNat = 1 from rfl]
  have := lt2 t2; have := colN_le g; omega

theorem inb_of {n k : ℕ} (o : Fin 1 → ℕ) (h : o 0 = k) (hk : k + 16 ≤ n) : ∀ a, o a + S16.size a ≤ (![n] : Fin 1 → ℕ) a := by
  intro a; obtain rfl : a = 0 := Subsingleton.elim _ _; rw [h]; exact hk
theorem hOff0_inb (i t1 t2 g) : ∀ a, hOff0 i t1 t2 g a + S16.size a ≤ S4608.size a :=
  inb_of _ (hOff0_eq i t1 t2 g) (by have := dhN_lt i t1; have := lt2 t2; have := colN_le g; omega)
theorem hOff1_inb (i t1 t2 g) : ∀ a, hOff1 i t1 t2 g a + S16.size a ≤ S4608.size a :=
  inb_of _ (hOff1_eq i t1 t2 g) (by have := dhN_lt i t1; have := lt2 t2; have := colN_le g; omega)
theorem vOff0_inb (t2 g) : ∀ a, vOff0 t2 g a + S16.size a ≤ S4096.size a :=
  inb_of _ (vOff0_eq t2 g) (by have := lt2 t2; have := colN_le g; omega)
theorem vOff1_inb (t2 g) : ∀ a, vOff1 t2 g a + S16.size a ≤ S4096.size a :=
  inb_of _ (vOff1_eq t2 g) (by have := lt2 t2; have := colN_le g; omega)

/-- The first gather's indices in a column group. -/
def ixW [Facts] (i : grid0.Coords) (t1 : Fin k0_t1_loop.trips) (t2 : Fin k0_t2_loop.trips) (g : Fin 32) : IVec S16 32 :=
  addi lanes4 (broadcast S16 (Scalar.addi (Scalar.addi (dwW i t1) (Scalar.muli (Scf.iv 0#32 1#32 t2) 2044#32)) (colW4 g)))

theorem lanes4_toNat [Facts] (x : S16.Idx) : (lanes4 x).toNat = 4 * (x 0).val := by
  have h : (x 0).val < 16 := (x 0).isLt
  show (BitVec.ofNat 32 (0 * 16 + (x 0).val) * 4#32).toNat = _
  rw [BitVec.toNat_mul, BitVec.toNat_ofNat, show (4#32).toNat = 4 from rfl]
  omega

/-- Lane `x` of gather `n` of the four reads weight `n` of its column. -/
theorem ixW_toNat [Facts] (i t1 t2 g) (n : Fin 4) (x : S16.Idx) :
    (addi (ixW i t1 t2 g) (broadcast S16 (BitVec.ofNat 32 n.val)) x).toNat
      = dwN i t1 + 2044 * t2.val + 4 * (colN g + (x 0).val) + n.val := by
  show (lanes4 x + (dwW i t1 + Scalar.muli (Scf.iv 0#32 1#32 t2) 2044#32 + colW4 g) + BitVec.ofNat 32 n.val).toNat = _
  have h : (x 0).val < 16 := (x 0).isLt
  have h4 := n.isLt
  rw [BitVec.toNat_add, BitVec.toNat_add, BitVec.toNat_add, BitVec.toNat_add, lanes4_toNat, dwW_toNat, rW_toNat, colW4_toNat,
    BitVec.toNat_ofNat]
  have := dwN_le i t1; have := lt2 t2; have := colN_le g; omega

theorem ixW0 [Facts] (i t1 t2 g) : addi (ixW i t1 t2 g) (broadcast S16 0#32) = ixW i t1 t2 g := by
  funext x
  show ixW i t1 t2 g x + 0#32 = _
  simp

end Cert.Proof.Words

end
-- ==== Proof.Text.lean ====
/-
  The kernel's text, folded. A tile copies the bias, then walks 8 chunks of 8 rows of its segment of a channel; per chunk it
  copies in the edges of four images and the weights, computes 8 rows, and copies the four results out. A row of 511 results
  is computed in 32 column groups of 16 (the last one overlaps its neighbour), which the kernel writes out one after the
  other; here they are ONE program `grp` at a group number. `tile_eq`: the printed kernel is the program `tile` so folded.
-/
module

public import proofs.«01_k».proof.Proof.Words

@[expose] public section

noncomputable section

namespace Cert.Proof.Text

open Cert.KernelIdeal Cert.Proof.Words
open Idealize.ShloMosaic Idealize.SL.Sem

variable {F : FTy → Type} [FloatOps F] [Facts]
open Facts₀

/-- The lanes' results: the bias, and the four products added to it in order. -/
def acc (b a0 w0 a1 w1 a2 w2 a3 w3 : FVec F S16 .f32) : FVec F S16 .f32 :=
  addf (addf (addf (addf b (mulf a0 w0)) (mulf a1 w1)) (mulf a2 w2)) (mulf a3 w3)

section

variable {cc : Fin τ.nSC} {ss : Fin τ.nSub}

local notation "PR" => Prog (TpuEff nD τ sig (Elt F) Λ₀ (Proc.scVector cc ss))

/-- Column group of a row, for one image: the four loads, the (unused) load of the place written, the store. -/
def img (xh : Memref sig .scVector .vmem S4608 .f32) (xv ob : Memref sig .scVector .vmem S4096 .f32) (o0 o1 o2 o3 : Fin 1 → ℕ)
    (h0 : ∀ a, o0 a + S16.size a ≤ S4608.size a) (h1 : ∀ a, o1 a + S16.size a ≤ S4608.size a)
    (h2 : ∀ a, o2 a + S16.size a ≤ S4096.size a) (h3 : ∀ a, o3 a + S16.size a ≤ S4096.size a)
    (b w0 w1 w2 w3 : FVec F S16 .f32) : PR PUnit :=
  .op (.load xh (Rect.unit (s := S4608) o0 S16.size h0).toLoadRect (View.loadsAt_vmem h_S16)) fun (a0 : Vec F S16 .f32) =>
  .op (.load xh (Rect.unit (s := S4608) o1 S16.size h1).toLoadRect (View.loadsAt_vmem h_S16)) fun (a1 : Vec F S16 .f32) =>
  .op (.load xv (Rect.unit (s := S4096) o2 S16.size h2).toLoadRect (View.loadsAt_vmem h_S16)) fun (a2 : Vec F S16 .f32) =>
  .op (.load xv (Rect.unit (s := S4096) o3 S16.size h3).toLoadRect (View.loadsAt_vmem h_S16)) fun (a3 : Vec F S16 .f32) =>
  .op (.load ob (Rect.unit (s := S4096) o2 S16.size h2).toLoadRect (View.loadsAt_vmem h_S16)) fun (_ : Vec F S16 .f32) =>
  .op (.store ob (Rect.unit (s := S4096) o2 S16.size h2) (acc b a0 w0 a1 w1 a2 w2 a3 w3) Finset.univ
    (View.stores_vmem_bits_univ h_S16 rfl) (.inl rfl)) .ret

/-- One gather of sixteen weights, its indices checked first. -/
def wts (wb : Memref sig .scVector .vmem S16360 .f32) (ix : IVec S16 32) : PR (Vec F S16 .f32) :=
  .op (TpuEff.assume (k0_chk2 ix) (k0_chk2.dec ix)) fun h =>
    SparseCore.vectorLoadIdx wb ![ix] (k0_idx2_inb ix h.down) (View.loads_vmem h_S16360)

/-- A row's column group: four gathers of weights, then the four images. -/
def grp (i : grid0.Coords) (xh0 xh1 xh2 xh3 : Memref sig .scVector .vmem S4608 .f32)
    (xv0 xv1 xv2 xv3 : Memref sig .scVector .vmem S4096 .f32) (wb : Memref sig .scVector .vmem S16360 .f32)
    (ob0 ob1 ob2 ob3 : Memref sig .scVector .vmem S4096 .f32) (lanes : IVec S16 32) (b : Vec F S16 .f32)
    (t1 : Fin k0_t1_loop.trips) (dw : BitVec 32) (t2 : Fin k0_t2_loop.trips) (g : Fin 32) :
    PR PUnit := do
  let ix : IVec S16 32 := addi lanes (broadcast S16 (Scalar.addi (Scalar.addi dw (Scalar.muli (Scf.iv 0#32 1#32 t2) 2044#32)) (colW4 g)))
  let w0 ← wts wb ix
  let w1 ← wts wb (addi ix (broadcast S16 1#32))
  let w2 ← wts wb (addi ix (broadcast S16 2#32))
  let w3 ← wts wb (addi ix (broadcast S16 3#32))
  img xh0 xv0 ob0 (hOff0 i t1 t2 g) (hOff1 i t1 t2 g) (vOff0 t2 g) (vOff1 t2 g) (hOff0_inb i t1 t2 g) (hOff1_inb i t1 t2 g)
    (vOff0_inb t2 g) (vOff1_inb t2 g) b w0 w1 w2 w3
  img xh1 xv1 ob1 (hOff0 i t1 t2 g) (hOff1 i t1 t2 g) (vOff0 t2 g) (vOff1 t2 g) (hOff0_inb i t1 t2 g) (hOff1_inb i t1 t2 g)
    (vOff0_inb t2 g) (vOff1_inb t2 g) b w0 w1 w2 w3
  img xh2 xv2 ob2 (hOff0 i t1 t2 g) (hOff1 i t1 t2 g) (vOff0 t2 g) (vOff1 t2 g) (hOff0_inb i t1 t2 g) (hOff1_inb i t1 t2 g)
    (vOff0_inb t2 g) (vOff1_inb t2 g) b w0 w1 w2 w3
  img xh3 xv3 ob3 (hOff0 i t1 t2 g) (hOff1 i t1 t2 g) (vOff0 t2 g) (vOff1 t2 g) (hOff0_inb i t1 t2 g) (hOff1_inb i t1 t2 g)
    (vOff0_inb t2 g) (vOff1_inb t2 g) b w0 w1 w2 w3

/-- The programs `f n`, `f (n + 1)`, …, `f 31` in order. -/
def upTo (f : Fin 32 → PR PUnit) : (k : ℕ) → k ≤ 32 → PR (BitVec 32)
  | 0, _ => .ret 0#32
  | k + 1, h => f ⟨31 - k, by omega⟩ >>= fun _ => upTo f k (by omega)

/-- A copy into the tile's memory, and its wait; a copy out of it, and its wait. -/
def fetch {s : Shape} (src : Memref sig .scVector .hbm s .f32) (dst : Memref sig .scVector .vmem s .f32) (sem : DmaSems sig S_)
    (hs : src.view.WordExact) (hd : dst.view.WordExact) : PR PUnit :=
  .op (.enqueueDma src (.here dst) (.dma sem.sem) hs hd ⟨Or.inl rfl, trivial⟩) fun _ => .op (.waitDma2 sem.sem src dst hs hd) .ret
def flush {s : Shape} (src : Memref sig .scVector .vmem s .f32) (dst : Memref sig .scVector .hbm s .f32) (sem : DmaSems sig S_)
    (hs : src.view.WordExact) (hd : dst.view.WordExact) : PR PUnit :=
  .op (.enqueueDma src (.here dst) (.dma sem.sem) hs hd ⟨Or.inl rfl, trivial⟩) fun _ => .op (.waitDma2 sem.sem src dst hs hd) .ret

/-- The four images' edges in a chunk, and its weights, and its results, in the big arrays. -/
abbrev hSrc (x : Memref sig .scVector .hbm S8372224 .f32) (i : grid0.Coords) (t1 : Fin k0_t1_loop.trips) (r : Fin 4) :
    Memref sig .scVector .hbm S4608 .f32 :=
  x.slice (Rect.unit (s := S8372224) (k0_off1 i t1 (BitVec.ofNat 32 (2093056 * r.val))) S4608.size (k0_off1_inb i t1 r)) (fun _ => rfl)
abbrev vSrc (x : Memref sig .scVector .hbm S8372224 .f32) (i : grid0.Coords) (t1 : Fin k0_t1_loop.trips) (r : Fin 4) :
    Memref sig .scVector .hbm S4096 .f32 :=
  x.slice (Rect.unit (s := S8372224) (k0_off2 i t1 (BitVec.ofNat 32 (2093056 * r.val))) S4096.size (k0_off2_inb i t1 r)) (fun _ => rfl)
abbrev wSrc (w : Memref sig .scVector .hbm S4177936 .f32) (i : grid0.Coords) (t1 : Fin k0_t1_loop.trips) :
    Memref sig .scVector .hbm S16360 .f32 :=
  w.slice (Rect.unit (s := S4177936) (k0_off3 i t1) S16360.size (k0_off3_inb i t1)) (fun _ => rfl)
abbrev oDst (o : Memref sig .scVector .hbm S4186112 .f32) (i : grid0.Coords) (t1 : Fin k0_t1_loop.trips) (r : Fin 4) :
    Memref sig .scVector .hbm S4096 .f32 :=
  o.slice (Rect.unit (s := S4186112) (k0_off132 i t1 (BitVec.ofNat 32 (1046528 * r.val))) S4096.size (k0_off132_inb i t1 r)) (fun _ => rfl)

end

/-- One chunk of a tile: nine copies in, eight rows, four copies out. -/
def chunk (i : grid0.Coords) (arg2 : Memref sig .scVector .hbm S8372224 .f32) (harg2 : arg2.IsWhole) (arg3 : Memref sig .scVector .hbm S4177936 .f32) (harg3 : arg3.IsWhole) (arg4 : Memref sig .scVector .hbm S16 .f32) (harg4 : arg4.IsWhole) (arg5 : Memref sig .scVector .hbm S4186112 .f32) (harg5 : arg5.IsWhole) (arg6 : Memref sig .scVector .vmem S4608 .f32) (harg6 : arg6.IsWhole) (arg7 : Memref sig .scVector .vmem S4608 .f32) (harg7 : arg7.IsWhole) (arg8 : Memref sig .scVector .vmem S4608 .f32) (harg8 : arg8.IsWhole) (arg9 : Memref sig .scVector .vmem S4608 .f32) (harg9 : arg9.IsWhole) (arg10 : Memref sig .scVector .vmem S4096 .f32) (harg10 : arg10.IsWhole) (arg11 : Memref sig .scVector .vmem S4096 .f32) (harg11 : arg11.IsWhole) (arg12 : Memref sig .scVector .vmem S4096 .f32) (harg12 : arg12.IsWhole) (arg13 : Memref sig .scVector .vmem S4096 .f32) (harg13 : arg13.IsWhole) (arg14 : Memref sig .scVector .vmem S16360 .f32) (harg14 : arg14.IsWhole) (arg15 : Memref sig .scVector .vmem S4096 .f32) (harg15 : arg15.IsWhole) (arg16 : Memref sig .scVector .vmem S4096 .f32) (harg16 : arg16.IsWhole) (arg17 : Memref sig .scVector .vmem S4096 .f32) (harg17 : arg17.IsWhole) (arg18 : Memref sig .scVector .vmem S4096 .f32) (harg18 : arg18.IsWhole) (arg19 : Memref sig .scVector .vmem S16 .f32) (harg19 : arg19.IsWhole) (v36_r0 : DmaSems sig S_) (v113_r1 : DmaSems sig S_) (v113_r2 : DmaSems sig S_) (v113_r3 : DmaSems sig S_) (v113_r4 : DmaSems sig S_) (v113_r5 : DmaSems sig S_) (v113_r6 : DmaSems sig S_) (v113_r7 : DmaSems sig S_) (v113_r8 : DmaSems sig S_) (v113_r9 : DmaSems sig S_) (v113_r10 : DmaSems sig S_) (v113_r11 : DmaSems sig S_) (v113_r12 : DmaSems sig S_) (v113_r13 : DmaSems sig S_) (lanes : IVec S16 32) (b : Vec F S16 .f32) (t1 : Fin k0_t1_loop.trips) :
    Prog (TpuEff nD τ sig (Elt F) Λ₀ (.scVector ((i 0).castLE hcore0) ((i 1).castLE hsub0))) (BitVec 32) := do
  fetch (hSrc arg2 i t1 0) arg6 v113_r1 (View.wordExact_bits rfl) harg6.wordExact
  fetch (vSrc arg2 i t1 0) arg10 v113_r2 (View.wordExact_bits rfl) harg10.wordExact
  fetch (hSrc arg2 i t1 1) arg7 v113_r3 (View.wordExact_bits rfl) harg7.wordExact
  fetch (vSrc arg2 i t1 1) arg11 v113_r4 (View.wordExact_bits rfl) harg11.wordExact
  fetch (hSrc arg2 i t1 2) arg8 v113_r5 (View.wordExact_bits rfl) harg8.wordExact
  fetch (vSrc arg2 i t1 2) arg12 v113_r6 (View.wordExact_bits rfl) harg12.wordExact
  fetch (hSrc arg2 i t1 3) arg9 v113_r7 (View.wordExact_bits rfl) harg9.wordExact
  fetch (vSrc arg2 i t1 3) arg13 v113_r8 (View.wordExact_bits rfl) harg13.wordExact
  fetch (wSrc arg3 i t1) arg14 v113_r9 (View.wordExact_bits rfl) harg14.wordExact
  let _ ← Scf.Loop.for k0_t2_loop k0_t2_ok 0#32 fun t2 _ =>
    upTo (grp i arg6 arg7 arg8 arg9 arg10 arg11 arg12 arg13 arg14 arg15 arg16 arg17 arg18 lanes b t1 (dwW i t1) t2) 32 (le_refl _)
  flush arg15 (oDst arg5 i t1 0) v113_r10 harg15.wordExact (View.wordExact_bits rfl)
  flush arg16 (oDst arg5 i t1 1) v113_r11 harg16.wordExact (View.wordExact_bits rfl)
  flush arg17 (oDst arg5 i t1 2) v113_r12 harg17.wordExact (View.wordExact_bits rfl)
  flush arg18 (oDst arg5 i t1 3) v113_r13 harg18.wordExact (View.wordExact_bits rfl)
  pure 0#32

/-- The kernel on one tile: the bias copied in and one lane of it read, then the eight chunks. -/
def tile (i : grid0.Coords) (arg2 : Memref sig .scVector .hbm S8372224 .f32) (harg2 : arg2.IsWhole) (arg3 : Memref sig .scVector .hbm S4177936 .f32) (harg3 : arg3.IsWhole) (arg4 : Memref sig .scVector .hbm S16 .f32) (harg4 : arg4.IsWhole) (arg5 : Memref sig .scVector .hbm S4186112 .f32) (harg5 : arg5.IsWhole) (arg6 : Memref sig .scVector .vmem S4608 .f32) (harg6 : arg6.IsWhole) (arg7 : Memref sig .scVector .vmem S4608 .f32) (harg7 : arg7.IsWhole) (arg8 : Memref sig .scVector .vmem S4608 .f32) (harg8 : arg8.IsWhole) (arg9 : Memref sig .scVector .vmem S4608 .f32) (harg9 : arg9.IsWhole) (arg10 : Memref sig .scVector .vmem S4096 .f32) (harg10 : arg10.IsWhole) (arg11 : Memref sig .scVector .vmem S4096 .f32) (harg11 : arg11.IsWhole) (arg12 : Memref sig .scVector .vmem S4096 .f32) (harg12 : arg12.IsWhole) (arg13 : Memref sig .scVector .vmem S4096 .f32) (harg13 : arg13.IsWhole) (arg14 : Memref sig .scVector .vmem S16360 .f32) (harg14 : arg14.IsWhole) (arg15 : Memref sig .scVector .vmem S4096 .f32) (harg15 : arg15.IsWhole) (arg16 : Memref sig .scVector .vmem S4096 .f32) (harg16 : arg16.IsWhole) (arg17 : Memref sig .scVector .vmem S4096 .f32) (harg17 : arg17.IsWhole) (arg18 : Memref sig .scVector .vmem S4096 .f32) (harg18 : arg18.IsWhole) (arg19 : Memref sig .scVector .vmem S16 .f32) (harg19 : arg19.IsWhole) (v36_r0 : DmaSems sig S_) (v113_r1 : DmaSems sig S_) (v113_r2 : DmaSems sig S_) (v113_r3 : DmaSems sig S_) (v113_r4 : DmaSems sig S_) (v113_r5 : DmaSems sig S_) (v113_r6 : DmaSems sig S_) (v113_r7 : DmaSems sig S_) (v113_r8 : DmaSems sig S_) (v113_r9 : DmaSems sig S_) (v113_r10 : DmaSems sig S_) (v113_r11 : DmaSems sig S_) (v113_r12 : DmaSems sig S_) (v113_r13 : DmaSems sig S_) : Prog (TpuEff nD τ sig (Elt F) Λ₀ (.scVector ((i 0).castLE hcore0) ((i 1).castLE hsub0))) PUnit := do
  fetch arg4 arg19 v36_r0 harg4.wordExact harg19.wordExact
  let h ← Prog.lift (TpuEff.assume (k0_chk1 (broadcast S16 (chW i))) (k0_chk1.dec (broadcast S16 (chW i))))
  let b : Vec F S16 .f32 ← SparseCore.vectorLoadIdx arg19 ![broadcast S16 (chW i)] (k0_idx1_inb (broadcast S16 (chW i)) h.down) (View.loads_vmem h_S16)
  let _ ← Scf.Loop.for k0_t1_loop k0_t1_ok 0#32 fun t1 _ =>
    chunk i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 lanes4 b t1
  pure ⟨⟩

section
set_option maxRecDepth 1000000
set_option maxHeartbeats 0

/-- The printed body's first part: the chunk's scalars, and the first two copies. -/
theorem part84_eq (i : grid0.Coords) (arg2 : Memref sig .scVector .hbm S8372224 .f32) (harg2 : arg2.IsWhole) (arg3 : Memref sig .scVector .hbm S4177936 .f32) (harg3 : arg3.IsWhole) (arg4 : Memref sig .scVector .hbm S16 .f32) (harg4 : arg4.IsWhole) (arg5 : Memref sig .scVector .hbm S4186112 .f32) (harg5 : arg5.IsWhole) (arg6 : Memref sig .scVector .vmem S4608 .f32) (harg6 : arg6.IsWhole) (arg7 : Memref sig .scVector .vmem S4608 .f32) (harg7 : arg7.IsWhole) (arg8 : Memref sig .scVector .vmem S4608 .f32) (harg8 : arg8.IsWhole) (arg9 : Memref sig .scVector .vmem S4608 .f32) (harg9 : arg9.IsWhole) (arg10 : Memref sig .scVector .vmem S4096 .f32) (harg10 : arg10.IsWhole) (arg11 : Memref sig .scVector .vmem S4096 .f32) (harg11 : arg11.IsWhole) (arg12 : Memref sig .scVector .vmem S4096 .f32) (harg12 : arg12.IsWhole) (arg13 : Memref sig .scVector .vmem S4096 .f32) (harg13 : arg13.IsWhole) (arg14 : Memref sig .scVector .vmem S16360 .f32) (harg14 : arg14.IsWhole) (arg15 : Memref sig .scVector .vmem S4096 .f32) (harg15 : arg15.IsWhole) (arg16 : Memref sig .scVector .vmem S4096 .f32) (harg16 : arg16.IsWhole) (arg17 : Memref sig .scVector .vmem S4096 .f32) (harg17 : arg17.IsWhole) (arg18 : Memref sig .scVector .vmem S4096 .f32) (harg18 : arg18.IsWhole) (arg19 : Memref sig .scVector .vmem S16 .f32) (harg19 : arg19.IsWhole) (v36_r0 : DmaSems sig S_) (v113_r1 : DmaSems sig S_) (v113_r2 : DmaSems sig S_) (v113_r3 : DmaSems sig S_) (v113_r4 : DmaSems sig S_) (v113_r5 : DmaSems sig S_) (v113_r6 : DmaSems sig S_) (v113_r7 : DmaSems sig S_) (v113_r8 : DmaSems sig S_) (v113_r9 : DmaSems sig S_) (v113_r10 : DmaSems sig S_) (v113_r11 : DmaSems sig S_) (v113_r12 : DmaSems sig S_) (v113_r13 : DmaSems sig S_) (k0_t1 : Fin k0_t1_loop.trips) :
  k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 (chW i) (segW i) 0#32 1#32 k0_t1 = (do
  fetch (hSrc arg2 i k0_t1 0) arg6 v113_r1 (View.wordExact_bits rfl) harg6.wordExact
  fetch (vSrc arg2 i k0_t1 0) arg10 v113_r2 (View.wordExact_bits rfl) harg10.wordExact
  pure ⟨rowW i k0_t1, Scalar.andi (Scalar.muli (rowW i k0_t1) 511#32) 7#32, Scalar.subi (Scalar.muli (rowW i k0_t1) 511#32) (Scalar.andi (Scalar.muli (rowW i k0_t1) 511#32) 7#32), Scalar.minsi (Scalar.subi (wW i k0_t1) (Scalar.andi (wW i k0_t1) 7#32)) 4161576#32, dwW i k0_t1⟩) := by
  with_unfolding_all rfl

/-- Its second: five copies. -/
theorem part85_eq (i : grid0.Coords) (arg2 : Memref sig .scVector .hbm S8372224 .f32) (harg2 : arg2.IsWhole) (arg3 : Memref sig .scVector .hbm S4177936 .f32) (harg3 : arg3.IsWhole) (arg4 : Memref sig .scVector .hbm S16 .f32) (harg4 : arg4.IsWhole) (arg5 : Memref sig .scVector .hbm S4186112 .f32) (harg5 : arg5.IsWhole) (arg6 : Memref sig .scVector .vmem S4608 .f32) (harg6 : arg6.IsWhole) (arg7 : Memref sig .scVector .vmem S4608 .f32) (harg7 : arg7.IsWhole) (arg8 : Memref sig .scVector .vmem S4608 .f32) (harg8 : arg8.IsWhole) (arg9 : Memref sig .scVector .vmem S4608 .f32) (harg9 : arg9.IsWhole) (arg10 : Memref sig .scVector .vmem S4096 .f32) (harg10 : arg10.IsWhole) (arg11 : Memref sig .scVector .vmem S4096 .f32) (harg11 : arg11.IsWhole) (arg12 : Memref sig .scVector .vmem S4096 .f32) (harg12 : arg12.IsWhole) (arg13 : Memref sig .scVector .vmem S4096 .f32) (harg13 : arg13.IsWhole) (arg14 : Memref sig .scVector .vmem S16360 .f32) (harg14 : arg14.IsWhole) (arg15 : Memref sig .scVector .vmem S4096 .f32) (harg15 : arg15.IsWhole) (arg16 : Memref sig .scVector .vmem S4096 .f32) (harg16 : arg16.IsWhole) (arg17 : Memref sig .scVector .vmem S4096 .f32) (harg17 : arg17.IsWhole) (arg18 : Memref sig .scVector .vmem S4096 .f32) (harg18 : arg18.IsWhole) (arg19 : Memref sig .scVector .vmem S16 .f32) (harg19 : arg19.IsWhole) (v36_r0 : DmaSems sig S_) (v113_r1 : DmaSems sig S_) (v113_r2 : DmaSems sig S_) (v113_r3 : DmaSems sig S_) (v113_r4 : DmaSems sig S_) (v113_r5 : DmaSems sig S_) (v113_r6 : DmaSems sig S_) (v113_r7 : DmaSems sig S_) (v113_r8 : DmaSems sig S_) (v113_r9 : DmaSems sig S_) (v113_r10 : DmaSems sig S_) (v113_r11 : DmaSems sig S_) (v113_r12 : DmaSems sig S_) (v113_r13 : DmaSems sig S_) (k0_t1 : Fin k0_t1_loop.trips) :
  k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 (chW i) k0_t1 (rowW i k0_t1) (Scalar.subi (Scalar.muli (rowW i k0_t1) 511#32) (Scalar.andi (Scalar.muli (rowW i k0_t1) 511#32) 7#32)) = (do
  fetch (hSrc arg2 i k0_t1 1) arg7 v113_r3 (View.wordExact_bits rfl) harg7.wordExact
  fetch (vSrc arg2 i k0_t1 1) arg11 v113_r4 (View.wordExact_bits rfl) harg11.wordExact
  fetch (hSrc arg2 i k0_t1 2) arg8 v113_r5 (View.wordExact_bits rfl) harg8.wordExact
  fetch (vSrc arg2 i k0_t1 2) arg12 v113_r6 (View.wordExact_bits rfl) harg12.wordExact
  fetch (hSrc arg2 i k0_t1 3) arg9 v113_r7 (View.wordExact_bits rfl) harg9.wordExact
  pure ⟨⟩) := by
  with_unfolding_all rfl

/-- Its third: two copies in, the eight rows, two copies out. -/
theorem part86_eq (i : grid0.Coords) (arg2 : Memref sig .scVector .hbm S8372224 .f32) (harg2 : arg2.IsWhole) (arg3 : Memref sig .scVector .hbm S4177936 .f32) (harg3 : arg3.IsWhole) (arg4 : Memref sig .scVector .hbm S16 .f32) (harg4 : arg4.IsWhole) (arg5 : Memref sig .scVector .hbm S4186112 .f32) (harg5 : arg5.IsWhole) (arg6 : Memref sig .scVector .vmem S4608 .f32) (harg6 : arg6.IsWhole) (arg7 : Memref sig .scVector .vmem S4608 .f32) (harg7 : arg7.IsWhole) (arg8 : Memref sig .scVector .vmem S4608 .f32) (harg8 : arg8.IsWhole) (arg9 : Memref sig .scVector .vmem S4608 .f32) (harg9 : arg9.IsWhole) (arg10 : Memref sig .scVector .vmem S4096 .f32) (harg10 : arg10.IsWhole) (arg11 : Memref sig .scVector .vmem S4096 .f32) (harg11 : arg11.IsWhole) (arg12 : Memref sig .scVector .vmem S4096 .f32) (harg12 : arg12.IsWhole) (arg13 : Memref sig .scVector .vmem S4096 .f32) (harg13 : arg13.IsWhole) (arg14 : Memref sig .scVector .vmem S16360 .f32) (harg14 : arg14.IsWhole) (arg15 : Memref sig .scVector .vmem S4096 .f32) (harg15 : arg15.IsWhole) (arg16 : Memref sig .scVector .vmem S4096 .f32) (harg16 : arg16.IsWhole) (arg17 : Memref sig .scVector .vmem S4096 .f32) (harg17 : arg17.IsWhole) (arg18 : Memref sig .scVector .vmem S4096 .f32) (harg18 : arg18.IsWhole) (arg19 : Memref sig .scVector .vmem S16 .f32) (harg19 : arg19.IsWhole) (v36_r0 : DmaSems sig S_) (v113_r1 : DmaSems sig S_) (v113_r2 : DmaSems sig S_) (v113_r3 : DmaSems sig S_) (v113_r4 : DmaSems sig S_) (v113_r5 : DmaSems sig S_) (v113_r6 : DmaSems sig S_) (v113_r7 : DmaSems sig S_) (v113_r8 : DmaSems sig S_) (v113_r9 : DmaSems sig S_) (v113_r10 : DmaSems sig S_) (v113_r11 : DmaSems sig S_) (v113_r12 : DmaSems sig S_) (v113_r13 : DmaSems sig S_) (lanes : IVec S16 32) (b : Vec F S16 .f32) (k0_t1 : Fin k0_t1_loop.trips) (w48 : BitVec 32) :
  k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 (chW i) lanes b k0_t1 (rowW i k0_t1) (Scalar.andi (Scalar.muli (rowW i k0_t1) 511#32) 7#32) w48 (dwW i k0_t1) = (do
  fetch (vSrc arg2 i k0_t1 3) arg13 v113_r8 (View.wordExact_bits rfl) harg13.wordExact
  fetch (wSrc arg3 i k0_t1) arg14 v113_r9 (View.wordExact_bits rfl) harg14.wordExact
  let _ ← (Scf.Loop.for k0_t2_loop k0_t2_ok 0#32 fun t2 _ => upTo (grp i arg6 arg7 arg8 arg9 arg10 arg11 arg12 arg13 arg14 arg15 arg16 arg17 arg18 lanes b k0_t1 (dwW i k0_t1) t2) 32 (le_refl _))
  flush arg15 (oDst arg5 i k0_t1 0) v113_r10 harg15.wordExact (View.wordExact_bits rfl)
  flush arg16 (oDst arg5 i k0_t1 1) v113_r11 harg16.wordExact (View.wordExact_bits rfl)
  pure (Scalar.muli (chW i) 261632#32)) := by
  with_unfolding_all rfl

/-- The printed body of the chunk loop is `chunk`. -/
theorem chunk_eq (i : grid0.Coords) (arg2 : Memref sig .scVector .hbm S8372224 .f32) (harg2 : arg2.IsWhole) (arg3 : Memref sig .scVector .hbm S4177936 .f32) (harg3 : arg3.IsWhole) (arg4 : Memref sig .scVector .hbm S16 .f32) (harg4 : arg4.IsWhole) (arg5 : Memref sig .scVector .hbm S4186112 .f32) (harg5 : arg5.IsWhole) (arg6 : Memref sig .scVector .vmem S4608 .f32) (harg6 : arg6.IsWhole) (arg7 : Memref sig .scVector .vmem S4608 .f32) (harg7 : arg7.IsWhole) (arg8 : Memref sig .scVector .vmem S4608 .f32) (harg8 : arg8.IsWhole) (arg9 : Memref sig .scVector .vmem S4608 .f32) (harg9 : arg9.IsWhole) (arg10 : Memref sig .scVector .vmem S4096 .f32) (harg10 : arg10.IsWhole) (arg11 : Memref sig .scVector .vmem S4096 .f32) (harg11 : arg11.IsWhole) (arg12 : Memref sig .scVector .vmem S4096 .f32) (harg12 : arg12.IsWhole) (arg13 : Memref sig .scVector .vmem S4096 .f32) (harg13 : arg13.IsWhole) (arg14 : Memref sig .scVector .vmem S16360 .f32) (harg14 : arg14.IsWhole) (arg15 : Memref sig .scVector .vmem S4096 .f32) (harg15 : arg15.IsWhole) (arg16 : Memref sig .scVector .vmem S4096 .f32) (harg16 : arg16.IsWhole) (arg17 : Memref sig .scVector .vmem S4096 .f32) (harg17 : arg17.IsWhole) (arg18 : Memref sig .scVector .vmem S4096 .f32) (harg18 : arg18.IsWhole) (arg19 : Memref sig .scVector .vmem S16 .f32) (harg19 : arg19.IsWhole) (v36_r0 : DmaSems sig S_) (v113_r1 : DmaSems sig S_) (v113_r2 : DmaSems sig S_) (v113_r3 : DmaSems sig S_) (v113_r4 : DmaSems sig S_) (v113_r5 : DmaSems sig S_) (v113_r6 : DmaSems sig S_) (v113_r7 : DmaSems sig S_) (v113_r8 : DmaSems sig S_) (v113_r9 : DmaSems sig S_) (v113_r10 : DmaSems sig S_) (v113_r11 : DmaSems sig S_) (v113_r12 : DmaSems sig S_) (v113_r13 : DmaSems sig S_) (lanes : IVec S16 32) (b : Vec F S16 .f32) (k0_t1 : Fin k0_t1_loop.trips) :
    (do
    let ⟨v39, v41, v42, v48, v49⟩ : Σ' (v39 : BitVec 32) (v41 : BitVec 32) (v42 : BitVec 32) (v48 : BitVec 32), BitVec 32 ← k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 (chW i) (segW i) 0#32 1#32 k0_t1
    k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 (chW i) k0_t1 v39 v42
    let v103 : BitVec 32 ← k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 (chW i) lanes b k0_t1 v39 v41 v48 v49
    let c2093056_i32_47 : BitVec 32 := 2093056#32
    let v104 : BitVec 32 := Scalar.addi c2093056_i32_47 v103
    let c512_i32_48 : BitVec 32 := 512#32
    let v105 : BitVec 32 := Scalar.muli v39 c512_i32_48
    let v106 : BitVec 32 := Scalar.addi v104 v105
    let v107 : BitVec 32 := v106

    let v114_r12 : Memref sig .scVector .hbm S4096 .f32 := arg5.slice (Rect.unit (s := S4186112) (k0_off132 i k0_t1 2093056#32) S4096.size (k0_off132_inb i k0_t1 2)) (fun _ => rfl)
    let v115_r12 : Memref sig .scVector .hbm S4096 .f32 := arg5.slice (Rect.unit (s := S4186112) (k0_off132 i k0_t1 2093056#32) S4096.size (k0_off132_inb i k0_t1 2)) (fun _ => rfl)
    Prog.lift (.enqueueDma arg17 (.here v115_r12) (.dma v113_r12.sem) harg17.wordExact (View.wordExact_bits rfl) ⟨Or.inl rfl, trivial⟩)
    let v116_r12 : Memref sig .scVector .hbm S4096 .f32 := arg5.slice (Rect.unit (s := S4186112) (k0_off132 i k0_t1 2093056#32) S4096.size (k0_off132_inb i k0_t1 2)) (fun _ => rfl)
    let v117_r12 : Memref sig .scVector .hbm S4096 .f32 := arg5.slice (Rect.unit (s := S4186112) (k0_off132 i k0_t1 2093056#32) S4096.size (k0_off132_inb i k0_t1 2)) (fun _ => rfl)
    Prog.lift (.waitDma2 v113_r12.sem arg17 v117_r12 harg17.wordExact (View.wordExact_bits rfl))

    let c261632_i32_49 : BitVec 32 := 261632#32
    let v108 : BitVec 32 := Scalar.muli (chW i) c261632_i32_49
    let c3139584_i32 : BitVec 32 := 3139584#32
    let v109 : BitVec 32 := Scalar.addi c3139584_i32 v108
    let c512_i32_50 : BitVec 32 := 512#32
    let v110 : BitVec 32 := Scalar.muli v39 c512_i32_50
    let v111 : BitVec 32 := Scalar.addi v109 v110
    let v112 : BitVec 32 := v111

    let v114_r13 : Memref sig .scVector .hbm S4096 .f32 := arg5.slice (Rect.unit (s := S4186112) (k0_off132 i k0_t1 3139584#32) S4096.size (k0_off132_inb i k0_t1 3)) (fun _ => rfl)
    let v115_r13 : Memref sig .scVector .hbm S4096 .f32 := arg5.slice (Rect.unit (s := S4186112) (k0_off132 i k0_t1 3139584#32) S4096.size (k0_off132_inb i k0_t1 3)) (fun _ => rfl)
    Prog.lift (.enqueueDma arg18 (.here v115_r13) (.dma v113_r13.sem) harg18.wordExact (View.wordExact_bits rfl) ⟨Or.inl rfl, trivial⟩)
    let v116_r13 : Memref sig .scVector .hbm S4096 .f32 := arg5.slice (Rect.unit (s := S4186112) (k0_off132 i k0_t1 3139584#32) S4096.size (k0_off132_inb i k0_t1 3)) (fun _ => rfl)
    let v117_r13 : Memref sig .scVector .hbm S4096 .f32 := arg5.slice (Rect.unit (s := S4186112) (k0_off132 i k0_t1 3139584#32) S4096.size (k0_off132_inb i k0_t1 3)) (fun _ => rfl)
    Prog.lift (.waitDma2 v113_r13.sem arg18 v117_r13 harg18.wordExact (View.wordExact_bits rfl))

    let c0_i32_51 : BitVec 32 := 0#32
    pure c0_i32_51 : Prog (TpuEff nD τ sig (Elt F) Λ₀ (.scVector ((i 0).castLE hcore0) ((i 1).castLE hsub0))) (BitVec 32)) = chunk i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 lanes b k0_t1 := by
  rw [part84_eq]
  simp only [bind_assoc, pure_bind, part85_eq, part86_eq]
  rfl

/-- The printed kernel is `tile`. -/
theorem tile_eq (i : grid0.Coords) (arg2 : Memref sig .scVector .hbm S8372224 .f32) (harg2 : arg2.IsWhole) (arg3 : Memref sig .scVector .hbm S4177936 .f32) (harg3 : arg3.IsWhole) (arg4 : Memref sig .scVector .hbm S16 .f32) (harg4 : arg4.IsWhole) (arg5 : Memref sig .scVector .hbm S4186112 .f32) (harg5 : arg5.IsWhole) (arg6 : Memref sig .scVector .vmem S4608 .f32) (harg6 : arg6.IsWhole) (arg7 : Memref sig .scVector .vmem S4608 .f32) (harg7 : arg7.IsWhole) (arg8 : Memref sig .scVector .vmem S4608 .f32) (harg8 : arg8.IsWhole) (arg9 : Memref sig .scVector .vmem S4608 .f32) (harg9 : arg9.IsWhole) (arg10 : Memref sig .scVector .vmem S4096 .f32) (harg10 : arg10.IsWhole) (arg11 : Memref sig .scVector .vmem S4096 .f32) (harg11 : arg11.IsWhole) (arg12 : Memref sig .scVector .vmem S4096 .f32) (harg12 : arg12.IsWhole) (arg13 : Memref sig .scVector .vmem S4096 .f32) (harg13 : arg13.IsWhole) (arg14 : Memref sig .scVector .vmem S16360 .f32) (harg14 : arg14.IsWhole) (arg15 : Memref sig .scVector .vmem S4096 .f32) (harg15 : arg15.IsWhole) (arg16 : Memref sig .scVector .vmem S4096 .f32) (harg16 : arg16.IsWhole) (arg17 : Memref sig .scVector .vmem S4096 .f32) (harg17 : arg17.IsWhole) (arg18 : Memref sig .scVector .vmem S4096 .f32) (harg18 : arg18.IsWhole) (arg19 : Memref sig .scVector .vmem S16 .f32) (harg19 : arg19.IsWhole) (v36_r0 : DmaSems sig S_) (v113_r1 : DmaSems sig S_) (v113_r2 : DmaSems sig S_) (v113_r3 : DmaSems sig S_) (v113_r4 : DmaSems sig S_) (v113_r5 : DmaSems sig S_) (v113_r6 : DmaSems sig S_) (v113_r7 : DmaSems sig S_) (v113_r8 : DmaSems sig S_) (v113_r9 : DmaSems sig S_) (v113_r10 : DmaSems sig S_) (v113_r11 : DmaSems sig S_) (v113_r12 : DmaSems sig S_) (v113_r13 : DmaSems sig S_) :
    cc0_stencil_sc (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 = tile i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 := by
  unfold cc0_stencil_sc k0_part87 tile fetch
  simp only [bind_assoc, pure_bind, Prog.bind_op, Prog.bind_lift]
  refine congrArg (Prog.op _) (funext fun _ => congrArg (Prog.op _) (funext fun _ => congrArg (Prog.op _) (funext fun h => ?_)))
  refine congr (congrArg _ rfl) (funext fun b => ?_)
  refine congr (congrArg _ ?_) rfl
  refine congrArg (Scf.Loop.for k0_t1_loop k0_t1_ok 0#32) (funext fun t1 => funext fun _ => ?_)
  exact chunk_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 lanes4 b t1
end
end Cert.Proof.Text

end
-- ==== Proof.Leaf.lean ====
/-
  What the small pieces of a tile's program do: a column group's loads and store for one image, a gather of sixteen weights,
  a copy into the tile's memory and a copy out of it. Contents are stated by NUMBERED elements: `holds c m D X` says the
  buffer of the one-dimensional memref `m` is held whole and element `n` of it, for each `n` in `D`, is `X n`.
-/
module

public import proofs.«01_k».proof.Proof.Text
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Leaf

open Cert.KernelIdeal Cert.Proof.Words Cert.Proof.Text
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]
open Facts₀

/-! ## The logic's parameters -/

abbrev UH : Type := URounds (GSem nD τ sig) ℕ
abbrev UU : Type := UH × Counters
local notation "𝕄" => MT nD τ sig (HIx 1) (Elt F) ℕ UU ℕ
abbrev 𝒱₀ : Variants := Variants.none

variable (d : Dev nD) (cc : Fin τ.nSC) (ss : Fin τ.nSub)

/-- The weakest precondition of a program of vector subcore `(cc, ss)`. -/
abbrev W {α : Type} (p : Prog (TpuEff nD τ sig (Elt F) Λ₀ (Proc.scVector cc ss)) α) (Q : α → sProp 𝕄) : sProp 𝕄 :=
  wp frame (wpE (defs₀ (F := F)) 𝒱₀ (V d cc ss) none) Set.univ p Q

/-- A program's triple, at the head of a longer program. -/
theorem seq {α β : Type} {p : Prog (TpuEff nD τ sig (Elt F) Λ₀ (Proc.scVector cc ss)) α} {P : sProp 𝕄} {Q' : α → sProp 𝕄} (h : P ⊢ W d cc ss p Q')
    {k : α → Prog (TpuEff nD τ sig (Elt F) Λ₀ (Proc.scVector cc ss)) β} {Q : β → sProp 𝕄} :
    P ⊢ iprop((∀ a, Q' a -∗ W d cc ss (k a) Q) -∗ W d cc ss (p >>= k) Q) := by
  unfold W
  iintro HP HK
  rw [wp_bind]
  iapply (wp_wand_r _ _ _)
  isplitl [HP]
  · iapply h; iexact HP
  · iexact HK

/-! ## Contents -/

/-- The buffer of `m`, held whole, with element `n` of it being `X n` for `n` in `D`. -/
def holds {sp : Space} {N : ℕ} (m : Memref sig .scVector sp ⟨1, ![N]⟩ .f32) (D : ℕ → Prop) (X : ℕ → F .f32) : sProp 𝕄 :=
  iprop(∃ f, ⌜∀ y : (⟨1, ![N]⟩ : Shape).Idx, D (y 0).val → m.view.read (Elt F) f y = X (y 0).val⌝
    ∗ (m.view.loc (V d cc ss) ↦[m.view.set]{fullShare} f))

/-- No element's value known. -/
abbrev anyD : ℕ → Prop := fun _ => False
/-- Every element's value known. -/
abbrev allD : ℕ → Prop := fun _ => True

theorem holds_mono {sp : Space} {N : ℕ} (m : Memref sig .scVector sp ⟨1, ![N]⟩ .f32) {D D' : ℕ → Prop} {X X' : ℕ → F .f32}
    (h : ∀ n, D' n → D n) (hX : ∀ n, D' n → X n = X' n) : holds d cc ss m D X ⊢ (holds d cc ss m D' X' : sProp 𝕄) := by
  unfold holds
  iintro ⟨%f, %hf, H⟩
  iexists f
  isplitr
  · ipureintro; intro y hy; exact (hf y (h _ hy)).trans (hX _ hy)
  · iexact H

/-- A contiguous part's element `x` is element `off + x` of the whole. -/
theorem emb_unit_val {N n : ℕ} (o : Fin 1 → ℕ) (h : ∀ a, o a + (![n] : Fin 1 → ℕ) a ≤ (⟨1, ![N]⟩ : Shape).size a)
    (x : (⟨1, ![n]⟩ : Shape).Idx) : ((Rect.unit (s := ⟨1, ![N]⟩) o ![n] h).emb x 0).val = o 0 + (x 0).val := by
  show o 0 + 1 * (x 0).val = _
  omega

/-- What a load of a part reads. -/
theorem read_part {sp : Space} {N n : ℕ} (m : Memref sig .scVector sp ⟨1, ![N]⟩ .f32) (o : Fin 1 → ℕ)
    (h : ∀ a, o a + (![n] : Fin 1 → ℕ) a ≤ (⟨1, ![N]⟩ : Shape).size a) {X : ℕ → F .f32} {f : m.view.ty.Contents (Elt F)}
    (hf : ∀ y : (⟨1, ![N]⟩ : Shape).Idx, allD (y 0).val → m.view.read (Elt F) f y = X (y 0).val) :
    (m.access (Rect.unit (s := ⟨1, ![N]⟩) o ![n] h)).read (Elt F) f = fun x : (⟨1, ![n]⟩ : Shape).Idx => X (o 0 + (x 0).val) := by
  funext x
  show m.view.read (Elt F) f ((Rect.unit (s := ⟨1, ![N]⟩) o ![n] h).emb x) = _
  rw [hf _ trivial, emb_unit_val]

theorem access_sub {sp : Space} {N : ℕ} (m : Memref sig .scVector sp ⟨1, ![N]⟩ .f32) (r : Rect ⟨1, ![N]⟩) :
    (m.access r).set ⊆ m.view.set := by
  intro x hx
  rw [View.set_slice] at hx
  exact View.setOn_subset_set _ _ hx

/-! ## A column group of one image -/

/-- What is known after sixteen elements are stored: what was, and the sixteen. -/
theorem read_store {N : ℕ} (m : Memref sig .scVector .vmem ⟨1, ![N]⟩ .f32) (o : Fin 1 → ℕ)
    (h : ∀ a, o a + S16.size a ≤ (⟨1, ![N]⟩ : Shape).size a) {T : ℕ → F .f32} {D D' : ℕ → Prop} {u : m.view.ty.Contents (Elt F)}
    {w : S16.Idx → F .f32} (hD : ∀ n, D' n → D n ∨ (o 0 ≤ n ∧ n < o 0 + 16))
    (hu : ∀ y : (⟨1, ![N]⟩ : Shape).Idx, D (y 0).val → m.view.read (Elt F) u y = T (y 0).val)
    (hw : ∀ x : S16.Idx, w x = T (o 0 + (x 0).val)) (y : (⟨1, ![N]⟩ : Shape).Idx) (hy : D' (y 0).val) :
    m.view.read (Elt F) ((m.access (Rect.unit (s := ⟨1, ![N]⟩) o S16.size h)).write (Elt F) u w Finset.univ) y = T (y 0).val := by
  by_cases hm : o 0 ≤ (y 0).val ∧ (y 0).val < o 0 + 16
  · have hx : ∃ x : S16.Idx, (Rect.unit (s := ⟨1, ![N]⟩) o S16.size h).emb x = y := by
      refine ⟨fun a => ⟨(y 0).val - o 0, ?_⟩, ?_⟩
      · obtain rfl : a = 0 := Subsingleton.elim _ _
        show (y 0).val - o 0 < 16
        omega
      · funext a
        obtain rfl : a = 0 := Subsingleton.elim _ _
        apply Fin.ext
        rw [emb_unit_val]
        show o 0 + ((y 0).val - o 0) = (y 0).val
        omega
    obtain ⟨x, rfl⟩ := hx
    rw [View.read_slice_write_emb _ _ _ (Finset.mem_univ x)]
    refine (hw x).trans ?_
    rw [emb_unit_val]
  · rw [View.read_slice_write_of_not_mem]
    · exact hu y ((hD _ hy).resolve_right hm)
    · intro hc
      obtain ⟨x, _, rfl⟩ := Finset.mem_map.mp hc
      have hx : (x 0).val < 16 := (x 0).isLt
      rw [emb_unit_val] at hm
      omega

/-- A column group of one image: where the sixteen results are `T`'s, the group's places join the known ones. -/
theorem img_spec {xh : Memref sig .scVector .vmem S4608 .f32} {xv ob : Memref sig .scVector .vmem S4096 .f32} {o0 o1 o2 o3 : Fin 1 → ℕ}
    {h0 : ∀ a, o0 a + S16.size a ≤ S4608.size a} {h1 : ∀ a, o1 a + S16.size a ≤ S4608.size a}
    {h2 : ∀ a, o2 a + S16.size a ≤ S4096.size a} {h3 : ∀ a, o3 a + S16.size a ≤ S4096.size a}
    {b w0 w1 w2 w3 : FVec F S16 .f32} {Xh Xv T : ℕ → F .f32} {D D' : ℕ → Prop}
    (hD : ∀ n, D' n → D n ∨ (o2 0 ≤ n ∧ n < o2 0 + 16))
    (hT : ∀ x : S16.Idx, acc b (fun x => Xh (o0 0 + (x 0).val)) w0 (fun x => Xh (o1 0 + (x 0).val)) w1 (fun x => Xv (o2 0 + (x 0).val)) w2
      (fun x => Xv (o3 0 + (x 0).val)) w3 x = T (o2 0 + (x 0).val)) :
    iprop(holds d cc ss xh allD Xh ∗ holds d cc ss xv allD Xv ∗ holds d cc ss ob D T)
      ⊢ W d cc ss (img xh xv ob o0 o1 o2 o3 h0 h1 h2 h3 b w0 w1 w2 w3)
        fun _ => iprop(holds d cc ss xh allD Xh ∗ holds d cc ss xv allD Xv ∗ holds d cc ss ob D' T) := by
  unfold W img holds
  iintro ⟨⟨%f, %hf, H⟩, ⟨%g, %hg, G⟩, ⟨%u, %hu, U⟩⟩
  iapply (wp_load_rect 𝒱₀ (V d cc ss) none Set.univ (m := xh) (r := Rect.unit (s := S4608) o0 S16.size h0) (f := f) (q := fullShare) (access_sub xh _)) $$ H
  iintro H
  iapply (wp_load_rect 𝒱₀ (V d cc ss) none Set.univ (m := xh) (r := Rect.unit (s := S4608) o1 S16.size h1) (f := f) (q := fullShare) (access_sub xh _)) $$ H
  iintro H
  iapply (wp_load_rect 𝒱₀ (V d cc ss) none Set.univ (m := xv) (r := Rect.unit (s := S4096) o2 S16.size h2) (f := g) (q := fullShare) (access_sub xv _)) $$ G
  iintro G
  iapply (wp_load_rect 𝒱₀ (V d cc ss) none Set.univ (m := xv) (r := Rect.unit (s := S4096) o3 S16.size h3) (f := g) (q := fullShare) (access_sub xv _)) $$ G
  iintro G
  iapply (wp_load_rect 𝒱₀ (V d cc ss) none Set.univ (m := ob) (r := Rect.unit (s := S4096) o2 S16.size h2) (f := u) (q := fullShare) (access_sub ob _)) $$ U
  iintro U
  iapply (wp_store 𝒱₀ (V d cc ss) none Set.univ (m := ob) (r := Rect.unit (s := S4096) o2 S16.size h2) (f := u) (access_sub ob _)) $$ U
  iintro U
  rw [wp_ret]
  imodintro
  isplitl [H]
  · iexists f; isplitr; · ipureintro; exact hf
    iexact H
  isplitl [G]
  · iexists g; isplitr; · ipureintro; exact hg
    iexact G
  iexists _
  isplitr
  swap; · iexact U
  ipureintro
  intro y hy
  rw [read_part xh o0 h0 hf, read_part xh o1 h1 hf, read_part xv o2 h2 hg, read_part xv o3 h3 hg]
  exact read_store ob o2 h2 hD hu hT y hy

/-! ## A gather of weights -/

/-- The gather: lane `x` reads the weight its index names. -/
theorem wts_spec {wb : Memref sig .scVector .vmem S16360 .f32} {ix : IVec S16 32} {Xw : ℕ → F .f32} (hx : ∀ x, (ix x).toNat < 16360) :
    holds d cc ss wb allD Xw
      ⊢ W d cc ss (wts wb ix) fun v => iprop(⌜v = fun x => Xw (ix x).toNat⌝ ∗ holds d cc ss wb allD Xw) := by
  unfold W wts holds
  have hk : k0_chk2 ix := by
    intro a x; obtain rfl : a = 0 := Subsingleton.elim _ _; exact hx x
  iintro ⟨%f, %hf, H⟩
  iapply (wp_assume 𝒱₀ (V d cc ss) none Set.univ hk)
  have hset : (wb.access (Rect.whole S16360)).set ⊆ wb.view.set := access_sub wb _
  iapply (wp_load_rect 𝒱₀ (V d cc ss) none Set.univ (m := wb) (r := Rect.whole S16360) (f := f) (q := fullShare) hset) $$ H
  iintro H
  rw [wp_ret]
  imodintro
  isplitr
  · ipureintro
    funext x
    show (wb.access (Rect.whole S16360)).read (Elt F) f (idxAt ![ix] _ x) = _
    show wb.view.read (Elt F) f ((Rect.whole S16360).emb (idxAt ![ix] _ x)) = _
    rw [Rect.emb_whole_apply, hf _ trivial]
    rfl
  · iexists f
    isplitr; · ipureintro; exact hf
    iexact H

/-! ## The copies -/

/-- A copy into the tile's memory: the destination holds what the source's part of the big array holds. -/
theorem fetch_spec {N : ℕ} {src : Memref sig .scVector .hbm ⟨1, ![N]⟩ .f32} {dst : Memref sig .scVector .vmem ⟨1, ![N]⟩ .f32} {sem : DmaSems sig S_}
    {hs : src.view.WordExact} {hd : dst.view.WordExact} {O : CellTallies nD τ sig (HIx 1)} {Ws : Waits sig (HIx 1)}
    {q : PosShare TreeShare} {A : Finset (Idx (src.view.loc (V d cc ss)))} (hA : src.view.set ⊆ A)
    {fs : Buf (Elt F) (src.view.loc (V d cc ss))} {D : ℕ → Prop} {X X' : ℕ → F .f32} (hpos : 0 < dst.view.dmaCredit)
    (hX : ∀ y : (⟨1, ![N]⟩ : Shape).Idx, src.view.read (Elt F) fs y = X' (y 0).val) :
    iprop(Transfers.MayWaits (V d cc ss) (default : HIx 1) O ∗ (src.view.loc (V d cc ss) ↦[A]{q} fs) ∗ holds d cc ss dst D X
        ∗ semVal (V d cc ss, .dma sem.sem) 0 ∗ ∃ W', ⌜∀ p ∈ W', p ∈ Ws ∨ p.2 = none⌝ ∗ owes (V d cc ss) O W')
      ⊢ W d cc ss (fetch src dst sem hs hd) fun _ => iprop((src.view.loc (V d cc ss) ↦[A]{q} fs) ∗ holds d cc ss dst allD X'
        ∗ semVal (V d cc ss, .dma sem.sem) 0 ∗ ∃ W', ⌜∀ p ∈ W', p ∈ Ws ∨ p.2 = none⌝ ∗ owes (V d cc ss) O W') := by
  unfold W fetch holds
  iintro ⟨#Hmw, Hs, ⟨%f, %hf, H⟩, Hv, ⟨%W', %hW, HO⟩⟩
  ihave Hsp := (pointsTo_split_subset (q := q) (f := fs) hA).1 $$ Hs
  icases Hsp with ⟨Hs, Hr⟩
  iapply (Transfers.wp_dmaLocal countersEmb 𝒱₀ (V d cc ss) none (src := src) (via := .same) (dst := dst) (q := q) (fs := fs) (fd := f) (Sd := dst.view.set)
    (default : HIx 1) dst.view.dmaCredit rfl hpos subset_rfl) $$ [Hs H Hv]
  · isplitl [Hs]; · iexact Hs
    isplitl [H]; · iexact H
    iexact Hv
  iintro Hfl
  iapply (Transfers.wp_waitLocalO countersEmb 𝒱₀ (V d cc ss) none (default : HIx 1) (rfl : dst.view.dmaCredit = _)) $$ [Hfl HO]
  · isplitl [Hfl]; · iexact Hfl
    isplitl [HO]; · iexact HO
    iapply (Transfers.MayWaits.elim (SemLoc.dma sem.sem)) $$ Hmw
  iintro ⟨⟨H, Hs⟩, Hv, HO⟩
  rw [wp_ret]
  imodintro
  ihave Hs' := (pointsTo_split_subset (q := q) (f := fs) hA).2 $$ [Hs Hr]; · isplitl [Hs] <;> iassumption
  isplitl [Hs']; · iexact Hs'
  isplitl [H]
  · iexists _
    isplitr
    swap; · iexact H
    ipureintro
    intro y _
    rw [View.read_write_univ]
    exact hX y
  isplitl [Hv]; · iexact Hv
  iexists _
  isplitr
  swap; · iexact HO
  ipureintro
  intro p hp
  rcases Finset.mem_insert.mp hp with hp | hp
  · exact .inr (hp ▸ rfl)
  · exact hW p hp

/-- A copy out of the tile's memory: the destination's part holds what the source holds, the rest of what is held is as
    before. -/
theorem flush_spec {N : ℕ} {src : Memref sig .scVector .vmem ⟨1, ![N]⟩ .f32} {dst : Memref sig .scVector .hbm ⟨1, ![N]⟩ .f32} {sem : DmaSems sig S_}
    {hs : src.view.WordExact} {hd : dst.view.WordExact} {O : CellTallies nD τ sig (HIx 1)} {Ws : Waits sig (HIx 1)}
    {A : Finset (Idx (dst.view.loc (V d cc ss)))} (hA : dst.view.set ⊆ A)
    {fd : Buf (Elt F) (dst.view.loc (V d cc ss))} {D : ℕ → Prop} {X : ℕ → F .f32} (hpos : 0 < dst.view.dmaCredit) :
    iprop(Transfers.MayWaits (V d cc ss) (default : HIx 1) O ∗ (dst.view.loc (V d cc ss) ↦[A]{fullShare} fd) ∗ holds d cc ss src D X
        ∗ semVal (V d cc ss, .dma sem.sem) 0 ∗ ∃ W', ⌜∀ p ∈ W', p ∈ Ws ∨ p.2 = none⌝ ∗ owes (V d cc ss) O W')
      ⊢ W d cc ss (flush src dst sem hs hd) fun _ => iprop(
        (∃ fd' : Buf (Elt F) (dst.view.loc (V d cc ss)), ⌜(∀ y : (⟨1, ![N]⟩ : Shape).Idx, D (y 0).val → dst.view.read (Elt F) fd' y = X (y 0).val)
            ∧ ∀ j, j ∉ dst.view.set → fd' j = fd j⌝ ∗ (dst.view.loc (V d cc ss) ↦[A]{fullShare} fd')) ∗ holds d cc ss src D X
        ∗ semVal (V d cc ss, .dma sem.sem) 0 ∗ ∃ W', ⌜∀ p ∈ W', p ∈ Ws ∨ p.2 = none⌝ ∗ owes (V d cc ss) O W') := by
  unfold W flush holds
  iintro ⟨#Hmw, Hd, ⟨%f, %hf, H⟩, Hv, ⟨%W', %hW, HO⟩⟩
  iapply (Transfers.wp_dmaLocal countersEmb 𝒱₀ (V d cc ss) none (src := src) (via := .same) (dst := dst) (q := fullShare) (fs := f) (fd := fd) (Sd := A)
    (default : HIx 1) dst.view.dmaCredit rfl hpos hA) $$ [Hd H Hv]
  · isplitl [H]; · iexact H
    isplitl [Hd]; · iexact Hd
    iexact Hv
  iintro Hfl
  iapply (Transfers.wp_waitLocalO countersEmb 𝒱₀ (V d cc ss) none (default : HIx 1) (rfl : dst.view.dmaCredit = _)) $$ [Hfl HO]
  · isplitl [Hfl]; · iexact Hfl
    isplitl [HO]; · iexact HO
    iapply (Transfers.MayWaits.elim (SemLoc.dma sem.sem)) $$ Hmw
  iintro ⟨⟨Hd, H⟩, Hv, HO⟩
  rw [wp_ret]
  imodintro
  isplitl [Hd]
  · iexists _
    isplitr
    swap; · iexact Hd
    ipureintro
    refine ⟨fun y hy => ?_, fun j hj => View.write_of_not_mem _ _ _ hj⟩
    rw [View.read_write_univ]
    exact hf y hy
  isplitl [H]
  · iexists f
    isplitr; · ipureintro; exact hf
    iexact H
  isplitl [Hv]; · iexact Hv
  iexists _
  isplitr
  swap; · iexact HO
  ipureintro
  intro p hp
  rcases Finset.mem_insert.mp hp with hp | hp
  · exact .inr (hp ▸ rfl)
  · exact hW p hp

end Cert.Proof.Leaf

end
-- ==== Proof.Body.lean ====
/-
  The eight rows of a chunk: what a column group, a row, and the eight rows leave in the result buffers.
-/
module

public import proofs.«01_k».proof.Proof.Leaf

@[expose] public section

noncomputable section

namespace Cert.Proof.Body

open Cert.KernelIdeal Cert.Proof.Words Cert.Proof.Text Cert.Proof.Leaf
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]
open Facts₀

local notation "𝕄" => MT nD τ sig (HIx 1) (Elt F) ℕ UU ℕ

/-! ## Values -/

/-- One result: the bias, and four products added to it in order. -/
def acc1 (b a0 w0 a1 w1 a2 w2 a3 w3 : F .f32) : F .f32 :=
  FloatOps.addf (FloatOps.addf (FloatOps.addf (FloatOps.addf b (FloatOps.mulf a0 w0)) (FloatOps.mulf a1 w1)) (FloatOps.mulf a2 w2))
    (FloatOps.mulf a3 w3)

/-- Place `n` of a chunk's results (row `n / 512`, column `n % 512`), from the chunk's edges and weights. -/
def cell (bias : F .f32) (Xh Xv Xw : ℕ → F .f32) (dh dw n : ℕ) : F .f32 :=
  acc1 bias (Xh (dh + 511 * (n / 512) + n % 512)) (Xw (dw + 2044 * (n / 512) + 4 * (n % 512)))
    (Xh (dh + 511 * (n / 512 + 1) + n % 512)) (Xw (dw + 2044 * (n / 512) + 4 * (n % 512) + 1))
    (Xv n) (Xw (dw + 2044 * (n / 512) + 4 * (n % 512) + 2)) (Xv (n + 1)) (Xw (dw + 2044 * (n / 512) + 4 * (n % 512) + 3))

/-- The places computed when rows below `t` and the first `k` column groups of row `t` are. -/
def done (t k : ℕ) (n : ℕ) : Prop := n % 512 < 511 ∧ (n / 512 < t ∨ n / 512 = t ∧ n % 512 < 16 * k)

variable (d : Dev nD) (cc : Fin τ.nSC) (ss : Fin τ.nSub)

/-- A triple of a program that is the rest of one. -/
theorem last {α : Type} {p : Prog (TpuEff nD τ sig (Elt F) Λ₀ (Proc.scVector cc ss)) α} {P : sProp 𝕄} {Q Q' : α → sProp 𝕄} (h : P ⊢ W d cc ss p Q') :
    P ⊢ iprop((∀ a, Q' a -∗ Q a) -∗ W d cc ss p Q) := by
  unfold W
  iintro HP HK
  iapply (wp_wand_r _ _ _)
  isplitl [HP]
  · iapply h; iexact HP
  · iexact HK

/-- A loop that carries nothing, by an invariant. -/
theorem loop_spec (l : Scf.Loop 32) (hok : l.OK) (body : Fin l.trips → BitVec 32 → Prog (TpuEff nD τ sig (Elt F) Λ₀ (Proc.scVector cc ss)) (BitVec 32))
    (I : ℕ → sProp 𝕄) {n : ℕ} (hn : l.trips = n) (hbody : ∀ k a, I k.val ⊢ W d cc ss (body k a) fun _ => I (k.val + 1)) :
    I 0 ⊢ W d cc ss (Scf.Loop.for l hok 0#32 body) fun _ => I n := by
  subst hn
  unfold W at hbody ⊢
  iintro H
  iapply (Scf.wp_for _ _ _ _ _ _ hok _ _ (fun n _ => I n) hbody)
  isplitl [H]
  · iexact H
  · iintro %_ H
    iexact H

section Rows

variable (xh0 xh1 xh2 xh3 : Memref sig .scVector .vmem S4608 .f32) (xv0 xv1 xv2 xv3 : Memref sig .scVector .vmem S4096 .f32)
  (wb : Memref sig .scVector .vmem S16360 .f32) (ob0 ob1 ob2 ob3 : Memref sig .scVector .vmem S4096 .f32)
  (XH XV : Fin 4 → ℕ → F .f32) (XW : ℕ → F .f32) (TT : Fin 4 → ℕ → F .f32)

/-- The chunk's buffers: the edges and weights as given, and of each image's results those in `D` known. -/
def rows (D : ℕ → Prop) : sProp 𝕄 :=
  iprop(holds d cc ss xh0 allD (XH 0) ∗ holds d cc ss xh1 allD (XH 1) ∗ holds d cc ss xh2 allD (XH 2) ∗ holds d cc ss xh3 allD (XH 3)
    ∗ holds d cc ss xv0 allD (XV 0) ∗ holds d cc ss xv1 allD (XV 1) ∗ holds d cc ss xv2 allD (XV 2) ∗ holds d cc ss xv3 allD (XV 3)
    ∗ holds d cc ss wb allD XW
    ∗ holds d cc ss ob0 D (TT 0) ∗ holds d cc ss ob1 D (TT 1) ∗ holds d cc ss ob2 D (TT 2) ∗ holds d cc ss ob3 D (TT 3))

theorem rows_mono {D D' : ℕ → Prop} (h : ∀ n, D' n → D n) :
    rows d cc ss xh0 xh1 xh2 xh3 xv0 xv1 xv2 xv3 wb ob0 ob1 ob2 ob3 XH XV XW TT D
      ⊢ rows d cc ss xh0 xh1 xh2 xh3 xv0 xv1 xv2 xv3 wb ob0 ob1 ob2 ob3 XH XV XW TT D' := by
  unfold rows
  iintro ⟨h0, h1, h2, h3, v0, v1, v2, v3, w, o0, o1, o2, o3⟩
  isplitl [h0]; · iexact h0
  isplitl [h1]; · iexact h1
  isplitl [h2]; · iexact h2
  isplitl [h3]; · iexact h3
  isplitl [v0]; · iexact v0
  isplitl [v1]; · iexact v1
  isplitl [v2]; · iexact v2
  isplitl [v3]; · iexact v3
  isplitl [w]; · iexact w
  isplitl [o0]; · iapply (holds_mono d cc ss ob0 h (fun _ _ => rfl)); iexact o0
  isplitl [o1]; · iapply (holds_mono d cc ss ob1 h (fun _ _ => rfl)); iexact o1
  isplitl [o2]; · iapply (holds_mono d cc ss ob2 h (fun _ _ => rfl)); iexact o2
  iapply (holds_mono d cc ss ob3 h (fun _ _ => rfl)); iexact o3

variable (i : grid0.Coords) (t1 : Fin k0_t1_loop.trips) (bias : F .f32)

/-- One image's part of a column group. -/
theorem img_step {xh : Memref sig .scVector .vmem S4608 .f32} {xv ob : Memref sig .scVector .vmem S4096 .f32}
    (t2 : Fin k0_t2_loop.trips) (g : Fin 32) {Xh Xv Xw : ℕ → F .f32} {w0 w1 w2 w3 : FVec F S16 .f32}
    (e0 : w0 = fun x => Xw (dwN i t1 + 2044 * t2.val + 4 * (colN g + (x 0).val)))
    (e1 : w1 = fun x => Xw (dwN i t1 + 2044 * t2.val + 4 * (colN g + (x 0).val) + 1))
    (e2 : w2 = fun x => Xw (dwN i t1 + 2044 * t2.val + 4 * (colN g + (x 0).val) + 2))
    (e3 : w3 = fun x => Xw (dwN i t1 + 2044 * t2.val + 4 * (colN g + (x 0).val) + 3)) :
    iprop(holds d cc ss xh allD Xh ∗ holds d cc ss xv allD Xv ∗ holds d cc ss ob (done t2.val g.val) (cell bias Xh Xv Xw (dhN i t1) (dwN i t1)))
      ⊢ W d cc ss (img xh xv ob (hOff0 i t1 t2 g) (hOff1 i t1 t2 g) (vOff0 t2 g) (vOff1 t2 g) (hOff0_inb i t1 t2 g) (hOff1_inb i t1 t2 g)
          (vOff0_inb t2 g) (vOff1_inb t2 g) (fun _ => bias) w0 w1 w2 w3)
        fun _ => iprop(holds d cc ss xh allD Xh ∗ holds d cc ss xv allD Xv
          ∗ holds d cc ss ob (done t2.val (g.val + 1)) (cell bias Xh Xv Xw (dhN i t1) (dwN i t1))) := by
  refine img_spec d cc ss ?_ ?_
  · intro n hn
    rw [vOff0_eq]
    unfold done at hn ⊢
    unfold colN
    have := g.isLt
    omega
  · intro x
    have hx : (x 0).val < 16 := (x 0).isLt
    have hc := colN_le g
    rw [hOff0_eq, hOff1_eq, vOff0_eq, vOff1_eq, e0, e1, e2, e3]
    have hq : (512 * t2.val + colN g + (x 0).val) / 512 = t2.val := by omega
    have hr : (512 * t2.val + colN g + (x 0).val) % 512 = colN g + (x 0).val := by omega
    show acc1 bias _ _ _ _ _ _ _ _ = cell _ _ _ _ _ _ _
    unfold cell
    rw [hq, hr]
    simp only [show 512 * t2.val + colN g + 1 + (x 0).val = 512 * t2.val + colN g + (x 0).val + 1 by omega,
      show dhN i t1 + 511 * t2.val + colN g + (x 0).val = dhN i t1 + 511 * t2.val + (colN g + (x 0).val) by omega,
      show dhN i t1 + 511 * (t2.val + 1) + colN g + (x 0).val = dhN i t1 + 511 * (t2.val + 1) + (colN g + (x 0).val) by omega]

/-- A column group of the four images. -/
theorem grp_spec (t2 : Fin k0_t2_loop.trips) (g : Fin 32) :
    rows d cc ss xh0 xh1 xh2 xh3 xv0 xv1 xv2 xv3 wb ob0 ob1 ob2 ob3 XH XV XW (fun b => cell bias (XH b) (XV b) XW (dhN i t1) (dwN i t1)) (done t2.val g.val)
      ⊢ W d cc ss (grp i xh0 xh1 xh2 xh3 xv0 xv1 xv2 xv3 wb ob0 ob1 ob2 ob3 lanes4 (fun _ => bias) t1 (dwW i t1) t2 g)
        fun _ => rows d cc ss xh0 xh1 xh2 xh3 xv0 xv1 xv2 xv3 wb ob0 ob1 ob2 ob3 XH XV XW (fun b => cell bias (XH b) (XV b) XW (dhN i t1) (dwN i t1))
          (done t2.val (g.val + 1)) := by
  have hlt : ∀ (n : Fin 4) (x : S16.Idx), (addi (ixW i t1 t2 g) (broadcast S16 (BitVec.ofNat 32 n.val)) x).toNat < 16360 := by
    intro n x
    have hx : (x 0).val < 16 := (x 0).isLt
    rw [ixW_toNat]
    have := dwN_le i t1; have := lt2 t2; have := colN_le g; have := n.isLt
    omega
  have hval : ∀ (n : Fin 4), (fun x : S16.Idx => XW (addi (ixW i t1 t2 g) (broadcast S16 (BitVec.ofNat 32 n.val)) x).toNat)
      = fun x => XW (dwN i t1 + 2044 * t2.val + 4 * (colN g + (x 0).val) + n.val) := by
    intro n; funext x; rw [ixW_toNat]
  have h0 := ixW0 i t1 t2 g
  unfold rows grp
  iintro ⟨h0, h1, h2, h3, v0, v1, v2, v3, w, o0, o1, o2, o3⟩
  iapply (seq d cc ss (wts_spec d cc ss (wb := wb) (Xw := XW) (ix := ixW i t1 t2 g) (fun x => by have := hlt 0 x; rw [show (BitVec.ofNat 32 ((0 : Fin 4).val)) = 0#32 from rfl, ixW0] at this; exact this))) $$ w
  iintro %w0 ⟨%e0, w⟩
  iapply (seq d cc ss (wts_spec d cc ss (wb := wb) (Xw := XW) (hlt 1))) $$ w
  iintro %w1 ⟨%e1, w⟩
  iapply (seq d cc ss (wts_spec d cc ss (wb := wb) (Xw := XW) (hlt 2))) $$ w
  iintro %w2 ⟨%e2, w⟩
  iapply (seq d cc ss (wts_spec d cc ss (wb := wb) (Xw := XW) (hlt 3))) $$ w
  iintro %w3 ⟨%e3, w⟩
  have e0' : w0 = fun x => XW (dwN i t1 + 2044 * t2.val + 4 * (colN g + (x 0).val)) := by
    have := hval 0; rw [show (BitVec.ofNat 32 ((0 : Fin 4).val)) = 0#32 from rfl, ixW0] at this; exact e0.trans this
  have e1' := e1.trans (hval 1)
  have e2' := e2.trans (hval 2)
  have e3' := e3.trans (hval 3)
  iapply (seq d cc ss (img_step d cc ss i t1 bias (xh := xh0) (xv := xv0) (ob := ob0) (Xh := XH 0) (Xv := XV 0) (Xw := XW) t2 g e0' e1' e2' e3')) $$ [h0 v0 o0]
  · isplitl [h0]; · iexact h0
    isplitl [v0]; · iexact v0
    iexact o0
  iintro %_ ⟨h0, v0, o0⟩
  iapply (seq d cc ss (img_step d cc ss i t1 bias (xh := xh1) (xv := xv1) (ob := ob1) (Xh := XH 1) (Xv := XV 1) (Xw := XW) t2 g e0' e1' e2' e3')) $$ [h1 v1 o1]
  · isplitl [h1]; · iexact h1
    isplitl [v1]; · iexact v1
    iexact o1
  iintro %_ ⟨h1, v1, o1⟩
  iapply (seq d cc ss (img_step d cc ss i t1 bias (xh := xh2) (xv := xv2) (ob := ob2) (Xh := XH 2) (Xv := XV 2) (Xw := XW) t2 g e0' e1' e2' e3')) $$ [h2 v2 o2]
  · isplitl [h2]; · iexact h2
    isplitl [v2]; · iexact v2
    iexact o2
  iintro %_ ⟨h2, v2, o2⟩
  iapply (last d cc ss (img_step d cc ss i t1 bias (xh := xh3) (xv := xv3) (ob := ob3) (Xh := XH 3) (Xv := XV 3) (Xw := XW) t2 g e0' e1' e2' e3')) $$ [h3 v3 o3]
  · isplitl [h3]; · iexact h3
    isplitl [v3]; · iexact v3
    iexact o3
  iintro %_ ⟨h3, v3, o3⟩
  isplitl [h0]; · iexact h0
  isplitl [h1]; · iexact h1
  isplitl [h2]; · iexact h2
  isplitl [h3]; · iexact h3
  isplitl [v0]; · iexact v0
  isplitl [v1]; · iexact v1
  isplitl [v2]; · iexact v2
  isplitl [v3]; · iexact v3
  isplitl [w]; · iexact w
  isplitl [o0]; · iexact o0
  isplitl [o1]; · iexact o1
  isplitl [o2]; · iexact o2
  iexact o3

/-- Programs in order, by an invariant. -/
theorem upTo_spec (f : Fin 32 → Prog (TpuEff nD τ sig (Elt F) Λ₀ (Proc.scVector cc ss)) PUnit) (I : ℕ → sProp 𝕄)
    (hf : ∀ g : Fin 32, I g.val ⊢ W d cc ss (f g) fun _ => I (g.val + 1)) :
    ∀ (k : ℕ) (h : k ≤ 32), I (32 - k) ⊢ W d cc ss (upTo f k h) fun _ => I 32 := by
  intro k
  induction k with
  | zero =>
    intro h
    unfold upTo W
    rw [wp_ret]
    iintro H
    imodintro
    iexact H
  | succ k ih =>
    intro h
    unfold upTo
    have h1 := hf ⟨31 - k, by omega⟩
    have h2 := ih (by omega)
    rw [show 32 - (k + 1) = 31 - k by omega]
    rw [show 31 - k + 1 = 32 - k by omega] at h1
    iintro H
    iapply (seq d cc ss h1) $$ H
    iintro %_ H
    iapply h2
    iexact H

/-- A row of the four images: its 32 column groups. -/
theorem row_spec (t2 : Fin k0_t2_loop.trips) :
    rows d cc ss xh0 xh1 xh2 xh3 xv0 xv1 xv2 xv3 wb ob0 ob1 ob2 ob3 XH XV XW (fun b => cell bias (XH b) (XV b) XW (dhN i t1) (dwN i t1)) (done t2.val 0)
      ⊢ W d cc ss (upTo (grp i xh0 xh1 xh2 xh3 xv0 xv1 xv2 xv3 wb ob0 ob1 ob2 ob3 lanes4 (fun _ => bias) t1 (dwW i t1) t2) 32 (le_refl _))
        fun _ => rows d cc ss xh0 xh1 xh2 xh3 xv0 xv1 xv2 xv3 wb ob0 ob1 ob2 ob3 XH XV XW (fun b => cell bias (XH b) (XV b) XW (dhN i t1) (dwN i t1))
          (done (t2.val + 1) 0) := by
  have hu := upTo_spec d cc ss (grp i xh0 xh1 xh2 xh3 xv0 xv1 xv2 xv3 wb ob0 ob1 ob2 ob3 lanes4 (fun _ => bias) t1 (dwW i t1) t2)
    (fun g => rows d cc ss xh0 xh1 xh2 xh3 xv0 xv1 xv2 xv3 wb ob0 ob1 ob2 ob3 XH XV XW (fun b => cell bias (XH b) (XV b) XW (dhN i t1) (dwN i t1)) (done t2.val g))
    (fun g => grp_spec d cc ss xh0 xh1 xh2 xh3 xv0 xv1 xv2 xv3 wb ob0 ob1 ob2 ob3 XH XV XW i t1 bias t2 g) 32 (le_refl _)
  iintro H
  iapply (last d cc ss hu) $$ H
  iintro %_ H
  iapply (rows_mono d cc ss xh0 xh1 xh2 xh3 xv0 xv1 xv2 xv3 wb ob0 ob1 ob2 ob3 XH XV XW _ (D := done t2.val 32) (D' := done (t2.val + 1) 0)
    (by intro n hn; unfold done at hn ⊢; omega)) $$ H

/-- The eight rows. -/
theorem rows_spec :
    rows d cc ss xh0 xh1 xh2 xh3 xv0 xv1 xv2 xv3 wb ob0 ob1 ob2 ob3 XH XV XW (fun b => cell bias (XH b) (XV b) XW (dhN i t1) (dwN i t1)) anyD
      ⊢ W d cc ss (Scf.Loop.for k0_t2_loop k0_t2_ok 0#32 fun t2 _ =>
          upTo (grp i xh0 xh1 xh2 xh3 xv0 xv1 xv2 xv3 wb ob0 ob1 ob2 ob3 lanes4 (fun _ => bias) t1 (dwW i t1) t2) 32 (le_refl _))
        fun _ => rows d cc ss xh0 xh1 xh2 xh3 xv0 xv1 xv2 xv3 wb ob0 ob1 ob2 ob3 XH XV XW (fun b => cell bias (XH b) (XV b) XW (dhN i t1) (dwN i t1))
          (done 8 0) := by
  have h := loop_spec d cc ss k0_t2_loop k0_t2_ok (fun t2 _ => upTo (grp i xh0 xh1 xh2 xh3 xv0 xv1 xv2 xv3 wb ob0 ob1 ob2 ob3 lanes4 (fun _ => bias) t1 (dwW i t1) t2) 32 (le_refl _))
    (fun n => rows d cc ss xh0 xh1 xh2 xh3 xv0 xv1 xv2 xv3 wb ob0 ob1 ob2 ob3 XH XV XW (fun b => cell bias (XH b) (XV b) XW (dhN i t1) (dwN i t1)) (done n 0))
    trips2 (fun t2 _ => row_spec d cc ss xh0 xh1 xh2 xh3 xv0 xv1 xv2 xv3 wb ob0 ob1 ob2 ob3 XH XV XW i t1 bias t2)
  exact (rows_mono d cc ss xh0 xh1 xh2 xh3 xv0 xv1 xv2 xv3 wb ob0 ob1 ob2 ob3 XH XV XW _ (D := anyD) (D' := done 0 0)
      (by intro n hn; unfold done at hn; omega)).trans h

end Rows

end Cert.Proof.Body

end
-- ==== Proof.Chunk.lean ====
/-
  A chunk: nine copies in, the eight rows, four copies out; and the whole tile: the bias, then eight chunks.
-/
module

public import proofs.«01_k».proof.Proof.Body

@[expose] public section

noncomputable section

namespace Cert.Proof.Chunk

open Cert.KernelIdeal Cert.Proof.Words Cert.Proof.Text Cert.Proof.Leaf Cert.Proof.Body
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]
open Facts₀

local notation "𝕄" => MT nD τ sig (HIx 1) (Elt F) ℕ UU ℕ

/-! ## Values -/

/-- Element `n` of the kernel's result (image `n / 1046528`, channel, row and padded column from the rest), from the flat
    edges, weights and bias. -/
def out (XF WF BF : ℕ → F .f32) (n : ℕ) : F .f32 :=
  let b := n / 1046528
  let ch := n / 261632 % 4
  let m := n % 261632
  let i := m / 512
  let j := m % 512
  acc1 (BF ch) (XF (2093056 * b + 523264 * ch + 511 * i + j)) (WF (1044484 * ch + 2044 * i + 4 * j))
    (XF (2093056 * b + 523264 * ch + 511 * (i + 1) + j)) (WF (1044484 * ch + 2044 * i + 4 * j + 1))
    (XF (2093056 * b + 523264 * ch + 261632 + m)) (WF (1044484 * ch + 2044 * i + 4 * j + 2))
    (XF (2093056 * b + 523264 * ch + 261632 + m + 1)) (WF (1044484 * ch + 2044 * i + 4 * j + 3))

/-- The tile's elements: its channel's, of its segment of rows. -/
def mine (i : grid0.Coords) (n : ℕ) : Prop := n / 261632 % 4 = chN i ∧ n % 261632 / 512 / 64 = segN i

/-- The elements computed before chunk `t1`, and those of the chunk's of images below `r`. -/
def upto (i : grid0.Coords) (t r : ℕ) (n : ℕ) : Prop :=
  mine i n ∧ n % 512 < 511 ∧ (n % 261632 / 512 < 64 * segN i + 8 * t ∨ n / 1046528 < r ∧ n % 261632 / 512 < 64 * segN i + 8 * t + 8)

/-- What a chunk computes for image `r` is the kernel's result there. -/
theorem cell_eq (XF WF BF : ℕ → F .f32) (i : grid0.Coords) (t1 : Fin k0_t1_loop.trips) (r : Fin 4) (n : ℕ) (hn : n < 4096) :
    cell (BF (chN i)) (fun n => XF (2093056 * r.val + 523264 * chN i + (511 * rowN i t1 - dhN i t1) + n))
        (fun n => XF (2093056 * r.val + 523264 * chN i + 261632 + 512 * rowN i t1 + n)) (fun n => WF (w8N i t1 + n)) (dhN i t1) (dwN i t1) n
      = out XF WF BF (1046528 * r.val + 261632 * chN i + 512 * rowN i t1 + n) := by
  have h1 := chN_lt i
  have h2 := rowN_le i t1
  have h3 := w8N_le i t1
  have h4 : dhN i t1 ≤ 511 * rowN i t1 := by unfold dhN; omega
  have h5 : dwN i t1 = 1044484 * chN i + 2044 * rowN i t1 - w8N i t1 := rfl
  have h6 : w8N i t1 ≤ 1044484 * chN i + 2044 * rowN i t1 := h3
  have hr := r.isLt
  generalize chN i = ch at *
  generalize rowN i t1 = row at *
  generalize w8N i t1 = w8 at *
  generalize dhN i t1 = dh at *
  generalize dwN i t1 = dw at *
  generalize r.val = b at *
  have a1 : (1046528 * b + 261632 * ch + 512 * row + n) / 1046528 = b := by omega
  have a2 : (1046528 * b + 261632 * ch + 512 * row + n) / 261632 % 4 = ch := by omega
  have a3 : (1046528 * b + 261632 * ch + 512 * row + n) % 261632 = 512 * row + n := by omega
  have a4 : (512 * row + n) / 512 = row + n / 512 := by omega
  have a5 : (512 * row + n) % 512 = n % 512 := by omega
  unfold out cell
  simp only [a1, a2, a3, a4, a5]
  congr 2 <;> omega

variable (d : Dev nD) (cc : Fin τ.nSC) (ss : Fin τ.nSub)

/-- What the thread has waited for: nothing on a level. -/
abbrev waited (O : CellTallies nD τ sig (HIx 1)) (Ws : Waits sig (HIx 1)) : sProp 𝕄 :=
  iprop(∃ W', ⌜∀ p ∈ W', p ∈ Ws ∨ p.2 = none⌝ ∗ owes (V d cc ss) O W')

/-- The elements `A` of the buffer of `m`, held outright, with element `n` of it being `X n` for `n` in `D`. -/
def held {sp : Space} {N : ℕ} (m : Memref sig .scVector sp ⟨1, ![N]⟩ .f32) (A : Finset (Idx (m.view.loc (V d cc ss)))) (D : ℕ → Prop) (X : ℕ → F .f32) :
    sProp 𝕄 :=
  iprop(∃ f, ⌜∀ y : (⟨1, ![N]⟩ : Shape).Idx, D (y 0).val → m.view.read (Elt F) f y = X (y 0).val⌝
    ∗ (m.view.loc (V d cc ss) ↦[A]{fullShare} f))

theorem held_mono {sp : Space} {N : ℕ} (m : Memref sig .scVector sp ⟨1, ![N]⟩ .f32) (A : Finset (Idx (m.view.loc (V d cc ss)))) {D D' : ℕ → Prop}
    {X : ℕ → F .f32} (h : ∀ n, n < N → D' n → D n) : held d cc ss m A D X ⊢ (held d cc ss m A D' X : sProp 𝕄) := by
  unfold held
  iintro ⟨%f, %hf, H⟩
  iexists f
  isplitr
  · ipureintro; intro y hy; exact hf y (h _ (y 0).isLt hy)
  · iexact H

/-- A contiguous part of a big array copied into a tile's buffer. -/
theorem fetch_part {N n : ℕ} {m : Memref sig .scVector .hbm ⟨1, ![N]⟩ .f32} {o : Fin 1 → ℕ}
    {h : ∀ a, o a + (![n] : Fin 1 → ℕ) a ≤ (⟨1, ![N]⟩ : Shape).size a} {dst : Memref sig .scVector .vmem ⟨1, ![n]⟩ .f32} {sem : DmaSems sig S_}
    {hs : (m.slice (Rect.unit (s := ⟨1, ![N]⟩) o ![n] h) (fun _ => rfl)).view.WordExact} {hd : dst.view.WordExact}
    {O : CellTallies nD τ sig (HIx 1)} {Ws : Waits sig (HIx 1)} {q : PosShare TreeShare} {fs : Buf (Elt F) (m.view.loc (V d cc ss))}
    {D : ℕ → Prop} {X XF : ℕ → F .f32} (hn : 0 < n) (hX : ∀ y : (⟨1, ![N]⟩ : Shape).Idx, m.view.read (Elt F) fs y = XF (y 0).val) {k : ℕ} (hk : o 0 = k) :
    iprop(Transfers.MayWaits (V d cc ss) (default : HIx 1) O ∗ (m.view.loc (V d cc ss) ↦[Finset.univ]{q} fs) ∗ holds d cc ss dst D X
        ∗ semVal (V d cc ss, .dma sem.sem) 0 ∗ waited d cc ss O Ws)
      ⊢ W d cc ss (fetch (m.slice (Rect.unit (s := ⟨1, ![N]⟩) o ![n] h) (fun _ => rfl)) dst sem hs hd) fun _ =>
        iprop((m.view.loc (V d cc ss) ↦[Finset.univ]{q} fs) ∗ holds d cc ss dst allD (fun n => XF (k + n))
        ∗ semVal (V d cc ss, .dma sem.sem) 0 ∗ waited d cc ss O Ws) := by
  subst hk
  refine fetch_spec d cc ss (src := m.slice (Rect.unit (s := ⟨1, ![N]⟩) o ![n] h) (fun _ => rfl)) (dst := dst) (A := Finset.univ) (fs := fs)
    (Finset.subset_univ _) (View.dmaCredit_pos _ (Shape.numel_pos fun a => ?_)) ?_
  · obtain rfl : a = 0 := Subsingleton.elim _ _; exact hn
  · intro y
    exact congrFun (read_part m o h (fun y _ => hX y)) y

/-- A tile's buffer copied to a contiguous part of the result. -/
theorem flush_part {N n : ℕ} {m : Memref sig .scVector .hbm ⟨1, ![N]⟩ .f32} {o : Fin 1 → ℕ}
    {h : ∀ a, o a + (![n] : Fin 1 → ℕ) a ≤ (⟨1, ![N]⟩ : Shape).size a} {src : Memref sig .scVector .vmem ⟨1, ![n]⟩ .f32} {sem : DmaSems sig S_}
    {hs : src.view.WordExact} {hd : (m.slice (Rect.unit (s := ⟨1, ![N]⟩) o ![n] h) (fun _ => rfl)).view.WordExact}
    {O : CellTallies nD τ sig (HIx 1)} {Ws : Waits sig (HIx 1)} {A : Finset (Idx (m.view.loc (V d cc ss)))}
    {D D1 D2 : ℕ → Prop} {X T : ℕ → F .f32} (hn : 0 < n) {k : ℕ} (hk : o 0 = k)
    (hA : ∀ y : (⟨1, ![N]⟩ : Shape).Idx, k ≤ (y 0).val → (y 0).val < k + n → m.view.emb y ∈ A)
    (hD : ∀ e, e < N → D2 e → k ≤ e ∧ e < k + n ∧ D (e - k) ∨ ¬ (k ≤ e ∧ e < k + n) ∧ D1 e) (hT : ∀ e, e < n → X e = T (k + e)) :
    iprop(Transfers.MayWaits (V d cc ss) (default : HIx 1) O ∗ held d cc ss m A D1 T ∗ holds d cc ss src D X
        ∗ semVal (V d cc ss, .dma sem.sem) 0 ∗ waited d cc ss O Ws)
      ⊢ W d cc ss (flush src (m.slice (Rect.unit (s := ⟨1, ![N]⟩) o ![n] h) (fun _ => rfl)) sem hs hd) fun _ =>
        iprop(held d cc ss m A D2 T ∗ holds d cc ss src D X ∗ semVal (V d cc ss, .dma sem.sem) 0 ∗ waited d cc ss O Ws) := by
  subst hk
  have hsub : (m.slice (Rect.unit (s := ⟨1, ![N]⟩) o ![n] h) (fun _ => rfl)).view.set ⊆ A := by
    intro j hj
    obtain ⟨y, -, hy⟩ := Finset.mem_map.mp hj
    subst hy
    refine hA _ ?_ ?_
    · show o 0 ≤ ((Rect.unit (s := ⟨1, ![N]⟩) o ![n] h).emb y 0).val
      rw [emb_unit_val]; omega
    · show ((Rect.unit (s := ⟨1, ![N]⟩) o ![n] h).emb y 0).val < _
      rw [emb_unit_val]
      have : (y 0).val < n := (y 0).isLt
      omega
  unfold held
  iintro ⟨#Hmw, ⟨%fo, %hfo, Ho⟩, Hs, Hv, HO⟩
  iapply (last d cc ss (flush_spec d cc ss (src := src) (dst := m.slice (Rect.unit (s := ⟨1, ![N]⟩) o ![n] h) (fun _ => rfl)) (sem := sem) (O := O) (Ws := Ws)
    (D := D) (X := X) (A := A) (fd := fo) hsub (View.dmaCredit_pos _ (Shape.numel_pos fun a => by obtain rfl : a = 0 := Subsingleton.elim _ _; exact hn)))) $$ [Ho Hs Hv HO]
  · isplitr; · iexact Hmw
    isplitl [Ho]; · iexact Ho
    isplitl [Hs]; · iexact Hs
    isplitl [Hv]; · iexact Hv
    iexact HO
  iintro %_ ⟨⟨%f, %hf, Ho⟩, Hs, Hv, HO⟩
  isplitl [Ho]
  · iexists f
    isplitr
    · ipureintro
      intro y hy
      obtain ⟨hf1, hf2⟩ := hf
      rcases hD _ (y 0).isLt hy with ⟨h1, h2, h3⟩ | ⟨h1, h2⟩
      · have hlt : (y 0).val - o 0 < n := by omega
        have hx : (Rect.unit (s := ⟨1, ![N]⟩) o ![n] h).emb (fun a => ⟨(y 0).val - o 0, by obtain rfl : a = 0 := Subsingleton.elim _ _; exact hlt⟩ : (⟨1, ![n]⟩ : Shape).Idx) = y := by
          funext a
          obtain rfl : a = 0 := Subsingleton.elim _ _
          apply Fin.ext
          rw [emb_unit_val]
          show o 0 + ((y 0).val - o 0) = (y 0).val
          omega
        have := hf1 (fun a => ⟨(y 0).val - o 0, by obtain rfl : a = 0 := Subsingleton.elim _ _; exact hlt⟩) h3
        rw [← congrArg (m.view.read (Elt F) f) hx]
        refine this.trans ((hT _ hlt).trans ?_)
        rw [show o 0 + ((y 0).val - o 0) = (y 0).val by omega]
      · rw [← hfo y h2, View.read_apply, View.read_apply, hf2]
        intro hj
        obtain ⟨x, -, hx⟩ := Finset.mem_map.mp hj
        have hx' : (Rect.unit (s := ⟨1, ![N]⟩) o ![n] h).emb x = y := m.view.emb.injective hx
        have e := congrArg (fun z : (⟨1, ![N]⟩ : Shape).Idx => (z 0).val) hx'
        have e' : o 0 + (x 0).val = (y 0).val := (emb_unit_val o h x).symm.trans e
        have hl : (x 0).val < n := (x 0).isLt
        exact h1 ⟨by omega, by omega⟩
    · iexact Ho
  isplitl [Hs]; · iexact Hs
  isplitl [Hv]; · iexact Hv
  iexact HO

end Cert.Proof.Chunk

end
-- ==== Proof.Tile.lean ====
/-
  A chunk of a tile's work, and the whole of it.
-/
module

public import proofs.«01_k».proof.Proof.Chunk

@[expose] public section

noncomputable section

namespace Cert.Proof.Tile

open Cert.KernelIdeal Cert.Proof.Words Cert.Proof.Text Cert.Proof.Leaf Cert.Proof.Body Cert.Proof.Chunk
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]
open Facts₀

local notation "𝕄" => MT nD τ sig (HIx 1) (Elt F) ℕ UU ℕ

/-- The vector subcore at a grid point. -/
abbrev ccOf (i : grid0.Coords) : Fin τ.nSC := (i 0).castLE hcore0
abbrev ssOf (i : grid0.Coords) : Fin τ.nSub := (i 1).castLE hsub0

/-- Contents of no consequence. -/
def zed : ℕ → F .f32 := fun _ => FloatOps.ofBits .f32 0#32

/-- The chunk's results of image `r` are computed: those before, and those. -/
theorem upto_step (i : grid0.Coords) (t1 : Fin k0_t1_loop.trips) (r : Fin 4) (e : ℕ) (he : e < 4186112) (h : upto i t1.val (r.val + 1) e) :
    1046528 * r.val + 261632 * chN i + 512 * rowN i t1 ≤ e ∧ e < 1046528 * r.val + 261632 * chN i + 512 * rowN i t1 + 4096
        ∧ done 8 0 (e - (1046528 * r.val + 261632 * chN i + 512 * rowN i t1))
      ∨ ¬ (1046528 * r.val + 261632 * chN i + 512 * rowN i t1 ≤ e ∧ e < 1046528 * r.val + 261632 * chN i + 512 * rowN i t1 + 4096)
        ∧ upto i t1.val r.val e := by
  have h1 := chN_lt i
  have h2 := segN_lt i
  have h3 := lt1 t1
  have hr := r.isLt
  unfold upto mine at *
  unfold done rowN
  generalize chN i = ch at *
  generalize segN i = sg at *
  generalize t1.val = t at *
  generalize r.val = b at *
  obtain ⟨⟨m1, m2⟩, m3, m4⟩ := h
  by_cases hin : 1046528 * b + 261632 * ch + 512 * min (64 * sg + 8 * t) 503 ≤ e ∧ e < 1046528 * b + 261632 * ch + 512 * min (64 * sg + 8 * t) 503 + 4096
  · left
    refine ⟨hin.1, hin.2, ?_, ?_⟩
    · omega
    · left; omega
  · right
    refine ⟨hin, ⟨m1, m2⟩, m3, ?_⟩
    omega

/-- The chunk's elements are the tile's. -/
theorem slice_mine (i : grid0.Coords) (t1 : Fin k0_t1_loop.trips) (r : Fin 4) (e : ℕ)
    (h1 : 1046528 * r.val + 261632 * chN i + 512 * rowN i t1 ≤ e) (h2 : e < 1046528 * r.val + 261632 * chN i + 512 * rowN i t1 + 4096) : mine i e := by
  have h3 := chN_lt i
  have h4 := segN_lt i
  have h5 := lt1 t1
  have hr := r.isLt
  unfold rowN at *
  unfold mine
  generalize chN i = ch at *
  generalize segN i = sg at *
  generalize t1.val = t at *
  generalize r.val = b at *
  have h6 : e / 261632 = 4 * b + ch := by
    have : 512 * min (64 * sg + 8 * t) 503 ≤ 257536 := by omega
    omega
  have h7 : e % 261632 = e - 261632 * (4 * b + ch) := by omega
  have h8 : e % 261632 / 512 = (e - 261632 * (4 * b + ch)) / 512 := by rw [h7]
  refine ⟨by omega, ?_⟩
  rw [h8]
  have h9 : min (64 * sg + 8 * t) 503 ≤ (e - 261632 * (4 * b + ch)) / 512 := by omega
  have h10 : (e - 261632 * (4 * b + ch)) / 512 ≤ min (64 * sg + 8 * t) 503 + 7 := by omega
  omega

variable (d : Dev nD) (cc : Fin τ.nSC) (ss : Fin τ.nSub)

section
variable (arg6 arg7 arg8 arg9 : Memref sig .scVector .vmem S4608 .f32) (arg10 arg11 arg12 arg13 : Memref sig .scVector .vmem S4096 .f32)
  (arg14 : Memref sig .scVector .vmem S16360 .f32) (arg15 arg16 arg17 arg18 : Memref sig .scVector .vmem S4096 .f32)
  (v113_r1 v113_r2 v113_r3 v113_r4 v113_r5 v113_r6 v113_r7 v113_r8 v113_r9 v113_r10 v113_r11 v113_r12 v113_r13 : DmaSems sig S_)

/-- The tile's buffers, of no known contents. -/
def free : sProp 𝕄 :=
  iprop(holds d cc ss arg6 anyD zed
    ∗ holds d cc ss arg7 anyD zed
    ∗ holds d cc ss arg8 anyD zed
    ∗ holds d cc ss arg9 anyD zed
    ∗ holds d cc ss arg10 anyD zed
    ∗ holds d cc ss arg11 anyD zed
    ∗ holds d cc ss arg12 anyD zed
    ∗ holds d cc ss arg13 anyD zed
    ∗ holds d cc ss arg14 anyD zed
    ∗ holds d cc ss arg15 anyD zed
    ∗ holds d cc ss arg16 anyD zed
    ∗ holds d cc ss arg17 anyD zed
    ∗ holds d cc ss arg18 anyD zed)

/-- The copies' semaphores at zero. -/
def idle : sProp 𝕄 :=
  iprop(semVal (V d cc ss, .dma v113_r1.sem) 0
    ∗ semVal (V d cc ss, .dma v113_r2.sem) 0
    ∗ semVal (V d cc ss, .dma v113_r3.sem) 0
    ∗ semVal (V d cc ss, .dma v113_r4.sem) 0
    ∗ semVal (V d cc ss, .dma v113_r5.sem) 0
    ∗ semVal (V d cc ss, .dma v113_r6.sem) 0
    ∗ semVal (V d cc ss, .dma v113_r7.sem) 0
    ∗ semVal (V d cc ss, .dma v113_r8.sem) 0
    ∗ semVal (V d cc ss, .dma v113_r9.sem) 0
    ∗ semVal (V d cc ss, .dma v113_r10.sem) 0
    ∗ semVal (V d cc ss, .dma v113_r11.sem) 0
    ∗ semVal (V d cc ss, .dma v113_r12.sem) 0
    ∗ semVal (V d cc ss, .dma v113_r13.sem) 0)
end

section
variable {O : CellTallies nD τ sig (HIx 1)} {Ws : Waits sig (HIx 1)} {q : PosShare TreeShare} {XF WF BF : ℕ → F .f32}

set_option maxHeartbeats 1000000 in
/-- A chunk: the tile's results grow by the chunk's, of the four images. -/
theorem chunk_spec (i : grid0.Coords) (arg2 : Memref sig .scVector .hbm S8372224 .f32) (harg2 : arg2.IsWhole) (arg3 : Memref sig .scVector .hbm S4177936 .f32) (harg3 : arg3.IsWhole) (arg4 : Memref sig .scVector .hbm S16 .f32) (harg4 : arg4.IsWhole) (arg5 : Memref sig .scVector .hbm S4186112 .f32) (harg5 : arg5.IsWhole) (arg6 : Memref sig .scVector .vmem S4608 .f32) (harg6 : arg6.IsWhole) (arg7 : Memref sig .scVector .vmem S4608 .f32) (harg7 : arg7.IsWhole) (arg8 : Memref sig .scVector .vmem S4608 .f32) (harg8 : arg8.IsWhole) (arg9 : Memref sig .scVector .vmem S4608 .f32) (harg9 : arg9.IsWhole) (arg10 : Memref sig .scVector .vmem S4096 .f32) (harg10 : arg10.IsWhole) (arg11 : Memref sig .scVector .vmem S4096 .f32) (harg11 : arg11.IsWhole) (arg12 : Memref sig .scVector .vmem S4096 .f32) (harg12 : arg12.IsWhole) (arg13 : Memref sig .scVector .vmem S4096 .f32) (harg13 : arg13.IsWhole) (arg14 : Memref sig .scVector .vmem S16360 .f32) (harg14 : arg14.IsWhole) (arg15 : Memref sig .scVector .vmem S4096 .f32) (harg15 : arg15.IsWhole) (arg16 : Memref sig .scVector .vmem S4096 .f32) (harg16 : arg16.IsWhole) (arg17 : Memref sig .scVector .vmem S4096 .f32) (harg17 : arg17.IsWhole) (arg18 : Memref sig .scVector .vmem S4096 .f32) (harg18 : arg18.IsWhole) (arg19 : Memref sig .scVector .vmem S16 .f32) (harg19 : arg19.IsWhole) (v36_r0 : DmaSems sig S_) (v113_r1 : DmaSems sig S_) (v113_r2 : DmaSems sig S_) (v113_r3 : DmaSems sig S_) (v113_r4 : DmaSems sig S_) (v113_r5 : DmaSems sig S_) (v113_r6 : DmaSems sig S_) (v113_r7 : DmaSems sig S_) (v113_r8 : DmaSems sig S_) (v113_r9 : DmaSems sig S_) (v113_r10 : DmaSems sig S_) (v113_r11 : DmaSems sig S_) (v113_r12 : DmaSems sig S_) (v113_r13 : DmaSems sig S_)
    (t1 : Fin k0_t1_loop.trips) {fx : Buf (Elt F) (arg2.view.loc (V d (ccOf i) (ssOf i)))} {fw : Buf (Elt F) (arg3.view.loc (V d (ccOf i) (ssOf i)))}
    {A : Finset (Idx (arg5.view.loc (V d (ccOf i) (ssOf i))))}
    (hX : ∀ y, arg2.view.read (Elt F) fx y = XF (y 0).val) (hW : ∀ y, arg3.view.read (Elt F) fw y = WF (y 0).val)
    (hA : ∀ y : S4186112.Idx, mine i (y 0).val → arg5.view.emb y ∈ A) :
    iprop(Transfers.MayWaits (V d (ccOf i) (ssOf i)) (default : HIx 1) O
        ∗ (arg2.view.loc (V d (ccOf i) (ssOf i)) ↦[Finset.univ]{q} fx) ∗ (arg3.view.loc (V d (ccOf i) (ssOf i)) ↦[Finset.univ]{q} fw)
        ∗ held d (ccOf i) (ssOf i) arg5 A (upto i t1.val 0) (out XF WF BF)
        ∗ free d (ccOf i) (ssOf i) arg6 arg7 arg8 arg9 arg10 arg11 arg12 arg13 arg14 arg15 arg16 arg17 arg18 ∗ idle d (ccOf i) (ssOf i) v113_r1 v113_r2 v113_r3 v113_r4 v113_r5 v113_r6 v113_r7 v113_r8 v113_r9 v113_r10 v113_r11 v113_r12 v113_r13
        ∗ waited d (ccOf i) (ssOf i) O Ws)
      ⊢ W d (ccOf i) (ssOf i) (chunk i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 lanes4 (fun _ => BF (chN i)) t1) fun _ =>
        iprop((arg2.view.loc (V d (ccOf i) (ssOf i)) ↦[Finset.univ]{q} fx) ∗ (arg3.view.loc (V d (ccOf i) (ssOf i)) ↦[Finset.univ]{q} fw)
        ∗ held d (ccOf i) (ssOf i) arg5 A (upto i (t1.val + 1) 0) (out XF WF BF)
        ∗ free d (ccOf i) (ssOf i) arg6 arg7 arg8 arg9 arg10 arg11 arg12 arg13 arg14 arg15 arg16 arg17 arg18 ∗ idle d (ccOf i) (ssOf i) v113_r1 v113_r2 v113_r3 v113_r4 v113_r5 v113_r6 v113_r7 v113_r8 v113_r9 v113_r10 v113_r11 v113_r12 v113_r13
        ∗ waited d (ccOf i) (ssOf i) O Ws) := by
  unfold free idle chunk
  iintro ⟨#Hmw, Hx, Hw, Ho, ⟨b6, b7, b8, b9, b10, b11, b12, b13, b14, b15, b16, b17, b18⟩, ⟨s1, s2, s3, s4, s5, s6, s7, s8, s9, s10, s11, s12, s13⟩, HO⟩
  iapply (seq d (ccOf i) (ssOf i) (fetch_part d (ccOf i) (ssOf i) (XF := XF) (by decide) hX (off1_eq i t1 0))) $$ [Hx b6 s1 HO]
  · iframe Hmw Hx b6 s1 HO
  iintro %_ ⟨Hx, b6, s1, HO⟩
  iapply (seq d (ccOf i) (ssOf i) (fetch_part d (ccOf i) (ssOf i) (XF := XF) (by decide) hX (off2_eq i t1 0))) $$ [Hx b10 s2 HO]
  · iframe Hmw Hx b10 s2 HO
  iintro %_ ⟨Hx, b10, s2, HO⟩
  iapply (seq d (ccOf i) (ssOf i) (fetch_part d (ccOf i) (ssOf i) (XF := XF) (by decide) hX (off1_eq i t1 1))) $$ [Hx b7 s3 HO]
  · iframe Hmw Hx b7 s3 HO
  iintro %_ ⟨Hx, b7, s3, HO⟩
  iapply (seq d (ccOf i) (ssOf i) (fetch_part d (ccOf i) (ssOf i) (XF := XF) (by decide) hX (off2_eq i t1 1))) $$ [Hx b11 s4 HO]
  · iframe Hmw Hx b11 s4 HO
  iintro %_ ⟨Hx, b11, s4, HO⟩
  iapply (seq d (ccOf i) (ssOf i) (fetch_part d (ccOf i) (ssOf i) (XF := XF) (by decide) hX (off1_eq i t1 2))) $$ [Hx b8 s5 HO]
  · iframe Hmw Hx b8 s5 HO
  iintro %_ ⟨Hx, b8, s5, HO⟩
  iapply (seq d (ccOf i) (ssOf i) (fetch_part d (ccOf i) (ssOf i) (XF := XF) (by decide) hX (off2_eq i t1 2))) $$ [Hx b12 s6 HO]
  · iframe Hmw Hx b12 s6 HO
  iintro %_ ⟨Hx, b12, s6, HO⟩
  iapply (seq d (ccOf i) (ssOf i) (fetch_part d (ccOf i) (ssOf i) (XF := XF) (by decide) hX (off1_eq i t1 3))) $$ [Hx b9 s7 HO]
  · iframe Hmw Hx b9 s7 HO
  iintro %_ ⟨Hx, b9, s7, HO⟩
  iapply (seq d (ccOf i) (ssOf i) (fetch_part d (ccOf i) (ssOf i) (XF := XF) (by decide) hX (off2_eq i t1 3))) $$ [Hx b13 s8 HO]
  · iframe Hmw Hx b13 s8 HO
  iintro %_ ⟨Hx, b13, s8, HO⟩
  iapply (seq d (ccOf i) (ssOf i) (fetch_part d (ccOf i) (ssOf i) (XF := WF) (by decide) hW (off3_eq i t1))) $$ [Hw b14 s9 HO]
  · iframe Hmw Hw b14 s9 HO
  iintro %_ ⟨Hw, b14, s9, HO⟩
  iapply (seq d (ccOf i) (ssOf i) (rows_spec d (ccOf i) (ssOf i) arg6 arg7 arg8 arg9 arg10 arg11 arg12 arg13 arg14 arg15 arg16 arg17 arg18
    (fun r n => XF (2093056 * r.val + 523264 * chN i + (511 * rowN i t1 - dhN i t1) + n))
    (fun r n => XF (2093056 * r.val + 523264 * chN i + 261632 + 512 * rowN i t1 + n)) (fun n => WF (w8N i t1 + n)) i t1 (BF (chN i)))) $$ [b6 b7 b8 b9 b10 b11 b12 b13 b14 b15 b16 b17 b18]
  · unfold rows
    iframe b6 b7 b8 b9 b10 b11 b12 b13 b14
    isplitl [b15]; · iapply (holds_mono d (ccOf i) (ssOf i) arg15 (fun _ h => h) (fun _ h => h.elim)) $$ b15
    isplitl [b16]; · iapply (holds_mono d (ccOf i) (ssOf i) arg16 (fun _ h => h) (fun _ h => h.elim)) $$ b16
    isplitl [b17]; · iapply (holds_mono d (ccOf i) (ssOf i) arg17 (fun _ h => h) (fun _ h => h.elim)) $$ b17
    iapply (holds_mono d (ccOf i) (ssOf i) arg18 (fun _ h => h) (fun _ h => h.elim)) $$ b18
  iintro %_ Hrows
  unfold rows
  icases Hrows with ⟨b6, b7, b8, b9, b10, b11, b12, b13, b14, b15, b16, b17, b18⟩
  iapply (seq d (ccOf i) (ssOf i) (flush_part d (ccOf i) (ssOf i) (D1 := upto i t1.val 0) (D2 := upto i t1.val 1) (T := out XF WF BF) (by decide) (off132_eq i t1 0)
    (fun y h1 h2 => hA y (slice_mine i t1 0 _ h1 h2)) (upto_step i t1 0) (fun e he => cell_eq XF WF BF i t1 0 e he))) $$ [Ho b15 s10 HO]
  · iframe Hmw Ho b15 s10 HO
  iintro %_ ⟨Ho, b15, s10, HO⟩
  iapply (seq d (ccOf i) (ssOf i) (flush_part d (ccOf i) (ssOf i) (D1 := upto i t1.val 1) (D2 := upto i t1.val 2) (T := out XF WF BF) (by decide) (off132_eq i t1 1)
    (fun y h1 h2 => hA y (slice_mine i t1 1 _ h1 h2)) (upto_step i t1 1) (fun e he => cell_eq XF WF BF i t1 1 e he))) $$ [Ho b16 s11 HO]
  · iframe Hmw Ho b16 s11 HO
  iintro %_ ⟨Ho, b16, s11, HO⟩
  iapply (seq d (ccOf i) (ssOf i) (flush_part d (ccOf i) (ssOf i) (D1 := upto i t1.val 2) (D2 := upto i t1.val 3) (T := out XF WF BF) (by decide) (off132_eq i t1 2)
    (fun y h1 h2 => hA y (slice_mine i t1 2 _ h1 h2)) (upto_step i t1 2) (fun e he => cell_eq XF WF BF i t1 2 e he))) $$ [Ho b17 s12 HO]
  · iframe Hmw Ho b17 s12 HO
  iintro %_ ⟨Ho, b17, s12, HO⟩
  iapply (seq d (ccOf i) (ssOf i) (flush_part d (ccOf i) (ssOf i) (D1 := upto i t1.val 3) (D2 := upto i t1.val 4) (T := out XF WF BF) (by decide) (off132_eq i t1 3)
    (fun y h1 h2 => hA y (slice_mine i t1 3 _ h1 h2)) (upto_step i t1 3) (fun e he => cell_eq XF WF BF i t1 3 e he))) $$ [Ho b18 s13 HO]
  · iframe Hmw Ho b18 s13 HO
  iintro %_ ⟨Ho, b18, s13, HO⟩
  unfold W
  rw [show (pure 0#32 : Prog (TpuEff nD τ sig (Elt F) Λ₀ (Proc.scVector (ccOf i) (ssOf i))) (BitVec 32)) = .ret 0#32 from rfl, wp_ret]
  imodintro
  iframe Hx Hw
  isplitl [Ho]
  · iapply (held_mono d (ccOf i) (ssOf i) arg5 A (D := upto i t1.val 4) (D' := upto i (t1.val + 1) 0)) $$ Ho
    intro n hn h
    unfold upto at h ⊢
    refine ⟨h.1, h.2.1, ?_⟩
    omega
  isplitr [s1 s2 s3 s4 s5 s6 s7 s8 s9 s10 s11 s12 s13 HO]
  · isplitl [b6]; · iapply (holds_mono d (ccOf i) (ssOf i) arg6 (fun _ h => h.elim) (fun _ h => h.elim)) $$ b6
    isplitl [b7]; · iapply (holds_mono d (ccOf i) (ssOf i) arg7 (fun _ h => h.elim) (fun _ h => h.elim)) $$ b7
    isplitl [b8]; · iapply (holds_mono d (ccOf i) (ssOf i) arg8 (fun _ h => h.elim) (fun _ h => h.elim)) $$ b8
    isplitl [b9]; · iapply (holds_mono d (ccOf i) (ssOf i) arg9 (fun _ h => h.elim) (fun _ h => h.elim)) $$ b9
    isplitl [b10]; · iapply (holds_mono d (ccOf i) (ssOf i) arg10 (fun _ h => h.elim) (fun _ h => h.elim)) $$ b10
    isplitl [b11]; · iapply (holds_mono d (ccOf i) (ssOf i) arg11 (fun _ h => h.elim) (fun _ h => h.elim)) $$ b11
    isplitl [b12]; · iapply (holds_mono d (ccOf i) (ssOf i) arg12 (fun _ h => h.elim) (fun _ h => h.elim)) $$ b12
    isplitl [b13]; · iapply (holds_mono d (ccOf i) (ssOf i) arg13 (fun _ h => h.elim) (fun _ h => h.elim)) $$ b13
    isplitl [b14]; · iapply (holds_mono d (ccOf i) (ssOf i) arg14 (fun _ h => h.elim) (fun _ h => h.elim)) $$ b14
    isplitl [b15]; · iapply (holds_mono d (ccOf i) (ssOf i) arg15 (fun _ h => h.elim) (fun _ h => h.elim)) $$ b15
    isplitl [b16]; · iapply (holds_mono d (ccOf i) (ssOf i) arg16 (fun _ h => h.elim) (fun _ h => h.elim)) $$ b16
    isplitl [b17]; · iapply (holds_mono d (ccOf i) (ssOf i) arg17 (fun _ h => h.elim) (fun _ h => h.elim)) $$ b17
    iapply (holds_mono d (ccOf i) (ssOf i) arg18 (fun _ h => h.elim) (fun _ h => h.elim)) $$ b18
  iframe

/-- A tile: all of its results. -/
theorem tile_spec (i : grid0.Coords) (arg2 : Memref sig .scVector .hbm S8372224 .f32) (harg2 : arg2.IsWhole) (arg3 : Memref sig .scVector .hbm S4177936 .f32) (harg3 : arg3.IsWhole) (arg4 : Memref sig .scVector .hbm S16 .f32) (harg4 : arg4.IsWhole) (arg5 : Memref sig .scVector .hbm S4186112 .f32) (harg5 : arg5.IsWhole) (arg6 : Memref sig .scVector .vmem S4608 .f32) (harg6 : arg6.IsWhole) (arg7 : Memref sig .scVector .vmem S4608 .f32) (harg7 : arg7.IsWhole) (arg8 : Memref sig .scVector .vmem S4608 .f32) (harg8 : arg8.IsWhole) (arg9 : Memref sig .scVector .vmem S4608 .f32) (harg9 : arg9.IsWhole) (arg10 : Memref sig .scVector .vmem S4096 .f32) (harg10 : arg10.IsWhole) (arg11 : Memref sig .scVector .vmem S4096 .f32) (harg11 : arg11.IsWhole) (arg12 : Memref sig .scVector .vmem S4096 .f32) (harg12 : arg12.IsWhole) (arg13 : Memref sig .scVector .vmem S4096 .f32) (harg13 : arg13.IsWhole) (arg14 : Memref sig .scVector .vmem S16360 .f32) (harg14 : arg14.IsWhole) (arg15 : Memref sig .scVector .vmem S4096 .f32) (harg15 : arg15.IsWhole) (arg16 : Memref sig .scVector .vmem S4096 .f32) (harg16 : arg16.IsWhole) (arg17 : Memref sig .scVector .vmem S4096 .f32) (harg17 : arg17.IsWhole) (arg18 : Memref sig .scVector .vmem S4096 .f32) (harg18 : arg18.IsWhole) (arg19 : Memref sig .scVector .vmem S16 .f32) (harg19 : arg19.IsWhole) (v36_r0 : DmaSems sig S_) (v113_r1 : DmaSems sig S_) (v113_r2 : DmaSems sig S_) (v113_r3 : DmaSems sig S_) (v113_r4 : DmaSems sig S_) (v113_r5 : DmaSems sig S_) (v113_r6 : DmaSems sig S_) (v113_r7 : DmaSems sig S_) (v113_r8 : DmaSems sig S_) (v113_r9 : DmaSems sig S_) (v113_r10 : DmaSems sig S_) (v113_r11 : DmaSems sig S_) (v113_r12 : DmaSems sig S_) (v113_r13 : DmaSems sig S_)
    {fx : Buf (Elt F) (arg2.view.loc (V d (ccOf i) (ssOf i)))} {fw : Buf (Elt F) (arg3.view.loc (V d (ccOf i) (ssOf i)))}
    {fb : Buf (Elt F) (arg4.view.loc (V d (ccOf i) (ssOf i)))} {A : Finset (Idx (arg5.view.loc (V d (ccOf i) (ssOf i))))}
    (hX : ∀ y, arg2.view.read (Elt F) fx y = XF (y 0).val) (hW : ∀ y, arg3.view.read (Elt F) fw y = WF (y 0).val)
    (hB : ∀ y, arg4.view.read (Elt F) fb y = BF (y 0).val) (hA : ∀ y : S4186112.Idx, mine i (y 0).val → arg5.view.emb y ∈ A) :
    iprop(Transfers.MayWaits (V d (ccOf i) (ssOf i)) (default : HIx 1) O
        ∗ (arg2.view.loc (V d (ccOf i) (ssOf i)) ↦[Finset.univ]{q} fx) ∗ (arg3.view.loc (V d (ccOf i) (ssOf i)) ↦[Finset.univ]{q} fw)
        ∗ (arg4.view.loc (V d (ccOf i) (ssOf i)) ↦[Finset.univ]{q} fb)
        ∗ held d (ccOf i) (ssOf i) arg5 A anyD (out XF WF BF)
        ∗ free d (ccOf i) (ssOf i) arg6 arg7 arg8 arg9 arg10 arg11 arg12 arg13 arg14 arg15 arg16 arg17 arg18 ∗ holds d (ccOf i) (ssOf i) arg19 anyD zed
        ∗ idle d (ccOf i) (ssOf i) v113_r1 v113_r2 v113_r3 v113_r4 v113_r5 v113_r6 v113_r7 v113_r8 v113_r9 v113_r10 v113_r11 v113_r12 v113_r13 ∗ semVal (V d (ccOf i) (ssOf i), .dma v36_r0.sem) 0
        ∗ waited d (ccOf i) (ssOf i) O Ws)
      ⊢ W d (ccOf i) (ssOf i) (tile i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13) fun _ =>
        iprop((arg2.view.loc (V d (ccOf i) (ssOf i)) ↦[Finset.univ]{q} fx) ∗ (arg3.view.loc (V d (ccOf i) (ssOf i)) ↦[Finset.univ]{q} fw)
        ∗ (arg4.view.loc (V d (ccOf i) (ssOf i)) ↦[Finset.univ]{q} fb)
        ∗ held d (ccOf i) (ssOf i) arg5 A (fun n => mine i n ∧ n % 512 < 511) (out XF WF BF)
        ∗ free d (ccOf i) (ssOf i) arg6 arg7 arg8 arg9 arg10 arg11 arg12 arg13 arg14 arg15 arg16 arg17 arg18 ∗ holds d (ccOf i) (ssOf i) arg19 anyD zed
        ∗ idle d (ccOf i) (ssOf i) v113_r1 v113_r2 v113_r3 v113_r4 v113_r5 v113_r6 v113_r7 v113_r8 v113_r9 v113_r10 v113_r11 v113_r12 v113_r13 ∗ semVal (V d (ccOf i) (ssOf i), .dma v36_r0.sem) 0
        ∗ waited d (ccOf i) (ssOf i) O Ws) := by
  have hch : (chW i).toNat = chN i := by
    have := chN_lt i
    rw [chW_eq, BitVec.toNat_ofNat]; omega
  have hk : k0_chk1 (broadcast S16 (chW i)) := by
    intro a x; obtain rfl : a = 0 := Subsingleton.elim _ _
    show (chW i).toNat < 16
    have := chN_lt i
    omega
  have hloop := loop_spec d (ccOf i) (ssOf i) k0_t1_loop k0_t1_ok (fun t1 _ => chunk i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 lanes4 (fun _ => BF (chN i)) t1)
    (fun n => iprop(Transfers.MayWaits (V d (ccOf i) (ssOf i)) (default : HIx 1) O
        ∗ (arg2.view.loc (V d (ccOf i) (ssOf i)) ↦[Finset.univ]{q} fx) ∗ (arg3.view.loc (V d (ccOf i) (ssOf i)) ↦[Finset.univ]{q} fw)
        ∗ held d (ccOf i) (ssOf i) arg5 A (upto i n 0) (out XF WF BF)
        ∗ free d (ccOf i) (ssOf i) arg6 arg7 arg8 arg9 arg10 arg11 arg12 arg13 arg14 arg15 arg16 arg17 arg18 ∗ idle d (ccOf i) (ssOf i) v113_r1 v113_r2 v113_r3 v113_r4 v113_r5 v113_r6 v113_r7 v113_r8 v113_r9 v113_r10 v113_r11 v113_r12 v113_r13
        ∗ waited d (ccOf i) (ssOf i) O Ws)) trips1 (fun t1 _ => by
      iintro ⟨#Hmw, H⟩
      iapply (last d (ccOf i) (ssOf i) (chunk_spec d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36_r0 v113_r1 v113_r2 v113_r3 v113_r4 v113_r5 v113_r6 v113_r7 v113_r8 v113_r9 v113_r10 v113_r11 v113_r12 v113_r13 t1 hX hW hA)) $$ [H]
      · iframe Hmw H
      · iintro %_ H
        iframe Hmw H)
  unfold tile
  iintro ⟨#Hmw, Hx, Hw, Hb, Ho, Hf, b19, Hi, s0, HO⟩
  iapply (seq d (ccOf i) (ssOf i) (fetch_spec d (ccOf i) (ssOf i) (src := arg4) (dst := arg19) (A := Finset.univ) (fs := fb) (X' := BF) (Finset.subset_univ _)
    (View.dmaCredit_pos _ (by decide)) hB)) $$ [Hb b19 s0 HO]
  · iframe Hmw Hb b19 s0 HO
  iintro %_ ⟨Hb, b19, s0, HO⟩
  unfold W holds
  icases b19 with ⟨%g, %hg, b19⟩
  rw [Prog.bind_lift]
  iapply (wp_assume 𝒱₀ (V d (ccOf i) (ssOf i)) none Set.univ hk)
  iapply (SparseCore.wp_vectorLoadIdx 𝒱₀ (V d (ccOf i) (ssOf i)) none Set.univ (base := arg19) (f := g) (q := fullShare) (access_sub arg19 _)) $$ b19
  iintro b19
  have hb : (loadIdx ((arg19.access (.whole S16)).read (Elt F) g) ![broadcast S16 (chW i)] (k0_idx1_inb (broadcast S16 (chW i)) hk) : Vec F S16 .f32)
      = fun _ => BF (chN i) := by
    funext x
    show arg19.view.read (Elt F) g ((Rect.whole S16).emb _) = _
    rw [hg _ trivial, Rect.emb_whole_apply]
    exact congrArg BF hch
  rw [hb]
  iapply (seq d (ccOf i) (ssOf i) hloop) $$ [Hx Hw Ho Hf Hi HO]
  · iframe Hmw Hx Hw Hf Hi HO
    iapply (held_mono d (ccOf i) (ssOf i) arg5 A (D := anyD) (D' := upto i 0 0)) $$ Ho
    intro n hn h
    unfold upto mine at h
    omega
  iintro %_ ⟨-, Hx, Hw, Ho, Hf, Hi, HO⟩
  rw [show (pure ⟨⟩ : Prog (TpuEff nD τ sig (Elt F) Λ₀ (Proc.scVector (ccOf i) (ssOf i))) PUnit) = .ret ⟨⟩ from rfl]
  unfold W
  rw [wp_ret]
  imodintro
  iframe Hx Hw Hb Hf Hi s0 HO
  isplitl [Ho]
  · iapply (held_mono d (ccOf i) (ssOf i) arg5 A (D := upto i 8 0) (D' := fun n => mine i n ∧ n % 512 < 511)) $$ Ho
    intro n hn h
    refine ⟨h.1, h.2, Or.inl ?_⟩
    have := h.1.2
    omega
  · iexists g
    isplitr
    · ipureintro; intro y hy; exact hy.elim
    · iexact b19

end

end Cert.Proof.Tile

end
-- ==== Proof.Launch.lean ====
/-
  The launch: what each tile is handed and hands back, and that its task meets it.
-/
module

public import proofs.«01_k».proof.Proof.Tile

@[expose] public section

noncomputable section

namespace Cert.Proof.Launch

open Cert.KernelIdeal Cert.Proof.Words Cert.Proof.Text Cert.Proof.Leaf Cert.Proof.Body Cert.Proof.Chunk Cert.Proof.Tile
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]
open Facts₀

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

abbrev xLoc (d : Dev nD) : Loc nD τ sig := (SparseCore.T d).loc main_v0
abbrev wLoc (d : Dev nD) : Loc nD τ sig := (SparseCore.T d).loc main_v1
abbrev bLoc (d : Dev nD) : Loc nD τ sig := (SparseCore.T d).loc main_v2
abbrev oLoc (d : Dev nD) : Loc nD τ sig := (SparseCore.T d).loc main_v3

/-! ## Flat contents -/

/-- A flat array's elements by number (wrapping past its end). -/
def flat {N : ℕ} (hN : 0 < N) (f : (⟨1, ![N]⟩ : Shape).Idx → F .f32) (n : ℕ) : F .f32 :=
  f fun a => ⟨n % N, by obtain rfl : a = 0 := Subsingleton.elim _ _; exact Nat.mod_lt _ hN⟩

omit [FloatOps F] [Facts] in
theorem flat_val {N : ℕ} (hN : 0 < N) (f : (⟨1, ![N]⟩ : Shape).Idx → F .f32) (y : (⟨1, ![N]⟩ : Shape).Idx) : f y = flat hN f (y 0).val := by
  unfold flat
  congr 1
  funext a
  obtain rfl : a = 0 := Subsingleton.elim _ _
  exact Fin.ext (Nat.mod_eq_of_lt (y 0).isLt).symm

/-- The kernel's result, from its three flat operands. -/
def outOf (x : S8372224.Idx → F .f32) (w : S4177936.Idx → F .f32) (b : S16.Idx → F .f32) : ℕ → F .f32 :=
  out (flat (by decide) x) (flat (by decide) w) (flat (by decide) b)

/-! ## Tiles -/

/-- The grid point of SparseCore `c`'s tile `s`. -/
def pt (c : Fin (grid0.bound 0)) (s : Fin (grid0.bound 1)) : grid0.Coords :=
  fun | 0 => c | 1 => s | ⟨_ + 2, h⟩ => absurd h (Nat.not_lt.2 (Nat.le_add_left _ _))

/-- The same, of a pair. -/
def tl (p : Fin 2 × Fin 16) : grid0.Coords := pt p.1 p.2

instance (i : grid0.Coords) : DecidablePred (mine i) := fun n => inferInstanceAs (Decidable (_ ∧ _))

/-- The elements of the result that are tile `i`'s. -/
def tset (i : grid0.Coords) : Finset S4186112.Idx := Finset.univ.filter fun y => mine i (y 0).val

theorem mem_tset {i : grid0.Coords} {y : S4186112.Idx} : y ∈ tset i ↔ mine i (y 0).val := by
  unfold tset; simp

theorem tset_disjoint (p q : Fin 2 × Fin 16) (h : p ≠ q) : Disjoint (tset (tl p)) (tset (tl q)) := by
  rw [Finset.disjoint_left]
  intro y hy hy'
  rw [mem_tset] at hy hy'
  apply h
  obtain ⟨c, s⟩ := p
  obtain ⟨c', s'⟩ := q
  unfold mine chN segN wid at hy hy'
  have e : 2 * s.val + c.val = 2 * s'.val + c'.val := by
    have h1 : (2 * s.val + c.val) / 8 = (2 * s'.val + c'.val) / 8 := hy.1.symm.trans hy'.1
    have h2 : (2 * s.val + c.val) % 8 = (2 * s'.val + c'.val) % 8 := hy.2.symm.trans hy'.2
    omega
  have := c.isLt; have := c'.isLt
  refine Prod.ext (Fin.ext ?_) (Fin.ext ?_)
  · show c.val = c'.val; omega
  · show s.val = s'.val; omega

theorem tset_cover : (Finset.univ : Finset (Fin 2 × Fin 16)).biUnion (fun p => tset (tl p)) = Finset.univ := by
  ext y
  simp only [Finset.mem_biUnion, Finset.mem_univ, true_and, iff_true]
  have hy : (y 0).val < 4186112 := (y 0).isLt
  have hs : (y 0).val % 261632 / 512 / 64 < 8 := by omega
  have hc : (y 0).val / 261632 % 4 < 4 := by omega
  obtain ⟨sg, es⟩ : ∃ sg, (y 0).val % 261632 / 512 / 64 = sg := ⟨_, rfl⟩
  obtain ⟨ch, ec⟩ : ∃ ch, (y 0).val / 261632 % 4 = ch := ⟨_, rfl⟩
  rw [es] at hs
  rw [ec] at hc
  refine ⟨(⟨sg % 2, by omega⟩, ⟨(8 * ch + sg) / 2, by omega⟩), ?_⟩
  rw [mem_tset]
  unfold mine chN segN wid
  rw [es, ec]
  show ch = (2 * ((8 * ch + sg) / 2) + sg % 2) / 8 ∧ sg = (2 * ((8 * ch + sg) / 2) + sg % 2) % 8
  clear es ec hy
  have h1 : 2 * ((8 * ch + sg) / 2) + sg % 2 = 8 * ch + sg := by omega
  rw [h1]
  omega

/-! ## Shares: the full share cut in two, five times over -/

/-- One of a share's two halves. -/
def half (q : PosShare TreeShare) : Bool → PosShare TreeShare
  | true => q.left
  | false => q.right

/-- A points-to at a share is its two halves' together. -/
theorem pointsTo_half {ℓ : Loc nD τ sig} (I : Finset (Idx ℓ)) (f : Buf (Elt F) ℓ) (q : PosShare TreeShare) :
    (ℓ ↦[I]{q} f : sProp 𝕄) = bigSep Finset.univ fun b : Bool => ℓ ↦[I]{half q b} f := by
  rw [show (Finset.univ : Finset Bool) = {true, false} from rfl, SparseCore.bigSep_insert' (by decide), bigSep_singleton]
  exact BI.Entails.antisymm (pointsTo_share (PosShare.mem_left_op_right q)).1 (pointsTo_share (PosShare.mem_left_op_right q)).2

/-- Five cuts. -/
abbrev Cut : Type := Bool × Bool × Bool × Bool × Bool

def cutShare (b : Cut) : PosShare TreeShare := half (half (half (half (half fullShare b.1) b.2.1) b.2.2.1) b.2.2.2.1) b.2.2.2.2

theorem pointsTo_cuts {ℓ : Loc nD τ sig} (I : Finset (Idx ℓ)) (f : Buf (Elt F) ℓ) :
    (ℓ ↦[I]{fullShare} f : sProp 𝕄) = bigSep Finset.univ fun b : Cut => ℓ ↦[I]{cutShare b} f := by
  rw [bigSep_univ_prod, pointsTo_half]
  refine bigSep_congr fun b0 _ => ?_
  rw [bigSep_univ_prod, pointsTo_half]
  refine bigSep_congr fun b1 _ => ?_
  rw [bigSep_univ_prod, pointsTo_half]
  refine bigSep_congr fun b2 _ => ?_
  rw [bigSep_univ_prod, pointsTo_half]
  refine bigSep_congr fun b3 _ => ?_
  exact pointsTo_half _ _ _

/-- Which cut is a tile's: the five bits of its number. -/
def cutOf (p : Fin 2 × Fin 16) : Cut := (p.1.val.testBit 0, p.2.val.testBit 0, p.2.val.testBit 1, p.2.val.testBit 2, p.2.val.testBit 3)

theorem cutOf_bijective : Function.Bijective cutOf := by decide +kernel

/-- A tile's read share of a whole array. -/
def rd (i : grid0.Coords) : PosShare TreeShare := cutShare (cutOf (i 0, i 1))

theorem pointsTo_tiles {ℓ : Loc nD τ sig} (f : Buf (Elt F) ℓ) :
    (ℓ ↦{fullShare} f : sProp 𝕄) = bigSep Finset.univ fun p : Fin 2 × Fin 16 => ℓ ↦{rd (tl p)} f := by
  rw [pointsTo_cuts, bigSep_univ_equiv (Equiv.ofBijective _ cutOf_bijective)]
  rfl

/-! ## What the handshakes carry -/

variable (x : Dev nD → S8372224.Idx → F .f32) (w : Dev nD → S4177936.Idx → F .f32) (b : Dev nD → S16.Idx → F .f32) (o : Dev nD → S4186112.Idx → F .f32)

/-- A tile's operands: a share of each of the three inputs. -/
abbrev ins (d : Dev nD) (i : grid0.Coords) : sProp 𝕄 :=
  iprop((xLoc d ↦{rd i} x d) ∗ (wLoc d ↦{rd i} w d) ∗ (bLoc d ↦{rd i} b d))

/-- A tile's part of the result, computed. -/
abbrev made (d : Dev nD) (i : grid0.Coords) : sProp 𝕄 :=
  iprop(∃ f : S4186112.Idx → F .f32, ⌜∀ y, mine i (y 0).val ∧ (y 0).val % 512 < 511 → f y = outOf (x d) (w d) (b d) (y 0).val⌝ ∗ (oLoc d ↦[tset i]{fullShare} f))

/-- What a tile is handed, and what it hands back. -/
abbrev pre (d : Dev nD) (i : grid0.Coords) : sProp 𝕄 := iprop(ins x w b d i ∗ (oLoc d ↦[tset i]{fullShare} o d))
abbrev post (d : Dev nD) (i : grid0.Coords) : sProp 𝕄 := iprop(ins x w b d i ∗ made x w b d i)

/-- The call's payloads: each SparseCore's tiles' together, and each tile's. -/
def P : (K (F := F)).Pay (nD := nD) (Val := Elt F) (Name := ℕ) (U := UU) where
  st := fun q d c => match q with | 0 => bigSep (Finset.univ : Finset (Fin (grid0.bound 1))) fun s => pre x w b o d (pt c s)
  dn := fun q d c => match q with | 0 => bigSep (Finset.univ : Finset (Fin (grid0.bound 1))) fun s => post x w b d (pt c s)
  go := fun q d c s => match q with | 0 => pre x w b o d (pt c s)
  td := fun q d c s => match q with | 0 => post x w b d (pt c s)
  x := fun _ _ => iprop(emp)

instance P_storable : (P x w b o).IsStorable where
  st q d c := match q with
    | 0 => (inferInstance : BI.Storable (upEmb : UEmb _ 𝕄) (bigSep (Finset.univ : Finset (Fin (grid0.bound 1))) fun s => pre x w b o d (pt c s)))
  dn q d c := match q with
    | 0 => (inferInstance : BI.Storable (upEmb : UEmb _ 𝕄) (bigSep (Finset.univ : Finset (Fin (grid0.bound 1))) fun s => post x w b d (pt c s)))
  go q d c s := match q with | 0 => (inferInstance : BI.Storable (upEmb : UEmb _ 𝕄) (pre x w b o d (pt c s)))
  td q d c s := match q with | 0 => (inferInstance : BI.Storable (upEmb : UEmb _ 𝕄) (post x w b d (pt c s)))

/-! ## A tile's own semaphores and buffers -/

/-- Some named members of a set, and the rest. -/
theorem bigSep_take {I : Type} [DecidableEq I] {n : ℕ} (s : Finset I) (e : Fin n → I) (he : Function.Injective e) (hs : ∀ k, e k ∈ s) (Φ : I → sProp 𝕄) :
    bigSep s Φ = iprop((bigSep Finset.univ fun k => Φ (e k)) ∗ bigSep (s \ Finset.univ.map ⟨e, he⟩) Φ) := by
  have hsub : Finset.univ.map ⟨e, he⟩ ⊆ s := by
    intro j hj
    obtain ⟨k, -, rfl⟩ := Finset.mem_map.mp hj
    exact hs k
  conv_lhs => rw [← Finset.union_sdiff_of_subset hsub]
  rw [bigSep_union Finset.disjoint_sdiff, bigSep_map]
  rfl

/-- Fourteen things together. -/
theorem bigSep_fourteen (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [show (Finset.univ : Finset (Fin 14)) = {0, 1, 2, 3, 4, 5, 6, 7, 8, 9, 10, 11, 12, 13} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

variable (d : Dev nD) (cc : Fin τ.nSC) (ss : Fin τ.nSub)

/-- The tile's copy semaphores, by number. -/
def cellOf (k : Fin 14) : GSem nD τ sig := (V d cc ss, .dma (k : DmaSem sig))
theorem cellOf_injective : Function.Injective (cellOf d cc ss) := by
  intro a b h
  unfold cellOf at h
  injection h with _ h
  injection h
theorem cellOf_own (k : Fin 14) : cellOf d cc ss k ∈ ownCells (V d cc ss) :=
  (mem_ownCells (g := cellOf d cc ss k)).mpr ⟨rfl, by
    show (SemLoc.dma (k : DmaSem sig) : SemLoc sig).isScoped .scVector = true
    revert k; decide⟩

/-- The tile's scratch buffers, by number. -/
def scrOf (k : Fin 14) : DevRef τ sig := (Proc.scVector cc ss).devRef (⟨.vmem, k, rfl⟩ : Ref sig .scVector)
theorem scrOf_injective : Function.Injective (scrOf cc ss) := by
  intro a b h
  have h' := Proc.devRef_injective _ h
  injection h'
theorem scrOf_own (k : Fin 14) : scrOf cc ss k ∈ ownRefs (τ := τ) (.scVector cc ss) := by
  refine SparseCore.Cfg.mem_ownRefs_of_owner (p := Proc.scVector cc ss) (b := scrOf cc ss k) ?_
  revert k
  unfold scrOf
  decide +revert

/-- A whole buffer of no known contents. -/
theorem holds_whole {N : ℕ} (m : Memref sig .scVector .vmem ⟨1, ![N]⟩ .f32) (hm : m.view.set = Finset.univ) :
    (iprop(∃ f, m.view.loc (V d cc ss) ↦{fullShare} f) : sProp 𝕄) = holds d cc ss m anyD zed := by
  unfold holds
  rw [hm]
  refine BI.Entails.antisymm (show (_ : sProp 𝕄) ⊢ _ from ?_) (show (_ : sProp 𝕄) ⊢ _ from ?_)
  · iintro ⟨%f, H⟩
    iexists f
    isplitr
    · ipureintro; intro y hy; exact hy.elim
    · iexact H
  · iintro ⟨%f, -, H⟩
    iexists f
    iexact H

/-- The fourteen copies' semaphores. -/
abbrev idles : sProp 𝕄 :=
  iprop(semVal (V d cc ss, .dma cc0_scoped0.sem) 0 ∗ idle d cc ss cc0_scoped1 cc0_scoped2 cc0_scoped3 cc0_scoped4 cc0_scoped5 cc0_scoped6 cc0_scoped7 cc0_scoped8 cc0_scoped9 cc0_scoped10 cc0_scoped11 cc0_scoped12 cc0_scoped13)
/-- The fourteen scratch buffers. -/
abbrev frees : sProp 𝕄 :=
  iprop(free d cc ss (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) ∗ holds d cc ss (Memref.whole cc0_scratch13) anyD zed)

theorem ownSems0_V :
    (ownSems0 (V d cc ss) : sProp 𝕄) = iprop(idles d cc ss ∗ bigSep (ownCells (V d cc ss) \ Finset.univ.map ⟨cellOf d cc ss, cellOf_injective d cc ss⟩) fun g => semVal g 0) := by
  unfold SparseCore.Cfg.ownSems0
  rw [bigSep_take _ _ (cellOf_injective d cc ss) (cellOf_own d cc ss), bigSep_fourteen]
  rfl

theorem ownBufs_V :
    (ownBufs (V d cc ss) : sProp 𝕄) = iprop(frees d cc ss ∗ bigSep (ownRefs (τ := τ) (.scVector cc ss) \ Finset.univ.map ⟨scrOf cc ss, scrOf_injective cc ss⟩)
      fun b => iprop(∃ f, ((d, b) : Loc nD τ sig) ↦{fullShare} f)) := by
  unfold SparseCore.Cfg.ownBufs
  rw [bigSep_take _ _ (scrOf_injective cc ss) (scrOf_own cc ss), bigSep_fourteen]
  unfold frees free
  rw [← holds_whole d cc ss (Memref.whole cc0_scratch0) (View.set_whole _), ← holds_whole d cc ss (Memref.whole cc0_scratch1) (View.set_whole _), ← holds_whole d cc ss (Memref.whole cc0_scratch2) (View.set_whole _), ← holds_whole d cc ss (Memref.whole cc0_scratch3) (View.set_whole _), ← holds_whole d cc ss (Memref.whole cc0_scratch4) (View.set_whole _), ← holds_whole d cc ss (Memref.whole cc0_scratch5) (View.set_whole _), ← holds_whole d cc ss (Memref.whole cc0_scratch6) (View.set_whole _), ← holds_whole d cc ss (Memref.whole cc0_scratch7) (View.set_whole _), ← holds_whole d cc ss (Memref.whole cc0_scratch8) (View.set_whole _), ← holds_whole d cc ss (Memref.whole cc0_scratch9) (View.set_whole _), ← holds_whole d cc ss (Memref.whole cc0_scratch10) (View.set_whole _), ← holds_whole d cc ss (Memref.whole cc0_scratch11) (View.set_whole _), ← holds_whole d cc ss (Memref.whole cc0_scratch12) (View.set_whole _), ← holds_whole d cc ss (Memref.whole cc0_scratch13) (View.set_whole _)]
  refine congrArg (fun z => iprop(z ∗ _)) ?_
  refine BI.Entails.antisymm (show (_ : sProp 𝕄) ⊢ _ from ?_) (show (_ : sProp 𝕄) ⊢ _ from ?_)
  · iintro ⟨h0, h1, h2, h3, h4, h5, h6, h7, h8, h9, h10, h11, h12, h13⟩
    isplitr [h13]
    · isplitl [h0]; · iexact h0
      isplitl [h1]; · iexact h1
      isplitl [h2]; · iexact h2
      isplitl [h3]; · iexact h3
      isplitl [h4]; · iexact h4
      isplitl [h5]; · iexact h5
      isplitl [h6]; · iexact h6
      isplitl [h7]; · iexact h7
      isplitl [h8]; · iexact h8
      isplitl [h9]; · iexact h9
      isplitl [h10]; · iexact h10
      isplitl [h11]; · iexact h11
      iexact h12
    · iexact h13
  · iintro ⟨⟨h0, h1, h2, h3, h4, h5, h6, h7, h8, h9, h10, h11, h12⟩, h13⟩
    isplitl [h0]; · iexact h0
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    iexact h13

/-! ## The task -/

/-- Tile `i`'s task: from its payload and its own buffers and semaphores to its payload back, its part of the result computed. -/
theorem tile_body (i : grid0.Coords) (hF : (K (F := F)).Facts) (O : CellTallies nD τ sig (HIx 1)) (Ws : Waits sig (HIx 1)) (hO : ∀ g, O g none = 0) :
    iprop(levAts (K (F := F)).L (K (F := F)).lev ∗ emp ∗ pre x w b o d i
        ∗ scopedBufs (V d (ccOf i) (ssOf i)) ∗ scopedSems0 (V d (ccOf i) (ssOf i)) ∗ owes (V d (ccOf i) (ssOf i)) O Ws)
      ⊢ wp frame (wpE (defs₀ (F := F)) 𝒱₀ (V d (ccOf i) (ssOf i)) none) Set.univ
          (cc0_stencil_sc i (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13)
          fun _ => iprop(post x w b d i ∗ scopedBufs (V d (ccOf i) (ssOf i)) ∗ scopedSems0 (V d (ccOf i) (ssOf i))
            ∗ ∃ W', ⌜∀ p ∈ W', p ∈ Ws ∨ p.2 = none⌝ ∗ owes (V d (ccOf i) (ssOf i)) O W') := by
  rw [tile_eq, (K (F := F)).scopedBufs_V hF d (ccOf i) (ssOf i), SparseCore.Cfg.scopedSems0_V (Val := Elt F) d (ccOf i) (ssOf i), ownSems0_V, ownBufs_V]
  iintro ⟨#Hlv, -, ⟨⟨Hx, Hw, Hb⟩, Ho⟩, ⟨⟨Hf, H13⟩, Hbufs⟩, ⟨⟨H0, Hi⟩, Hsems⟩, HO⟩
  ihave Hmw := (show levAts (K (F := F)).L (K (F := F)).lev ⊢ Transfers.MayWaits (V d (ccOf i) (ssOf i)) (default : HIx 1) O from
    (K (F := F)).mayWaits_none (thr := V d (ccOf i) (ssOf i)) hO) $$ Hlv
  iapply (last d (ccOf i) (ssOf i) (tile_spec d i (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13
    (O := O) (Ws := Ws) (q := rd i) (XF := flat (by decide) (x d)) (WF := flat (by decide) (w d)) (BF := flat (by decide) (b d)) (fx := x d) (fw := w d) (fb := b d) (A := tset i)
    (fun y => flat_val _ (x d) y) (fun y => flat_val _ (w d) y) (fun y => flat_val _ (b d) y) (fun y hy => mem_tset.mpr hy))) $$ [Hx Hw Hb Ho Hf H13 H0 Hi HO]
  · iframe Hmw Hx Hw Hb Hf H13 Hi H0
    isplitl [Ho]
    · unfold held
      iexists (o d)
      isplitr
      · ipureintro; intro y hy; exact hy.elim
      · iexact Ho
    · iexists Ws
      isplitr
      · ipureintro; intro p hp; exact .inl hp
      · iexact HO
  iintro %_ ⟨Hx, Hw, Hb, Ho, Hf, H13, Hi, H0, HO⟩
  iframe Hx Hw Hb Hf H13 Hbufs H0 Hi Hsems HO
  unfold held
  icases Ho with ⟨%f, %hf, Ho⟩
  iexists f
  isplitr
  · ipureintro; intro y hy; exact hf y hy
  · iexact Ho

end Cert.Proof.Launch

end
-- ==== Proof.Host.lean ====
/-
  The whole program's run: the host's operations before the call, the call, the host's operations after it.
-/
module

public import proofs.«01_k».proof.Proof.Launch
public import Idealize.ShloMosaic.Lib.Pipeline.Frame

@[expose] public section

noncomputable section

namespace Cert.Proof.Host

open Cert.KernelIdeal Cert.Proof.Words Cert.Proof.Text Cert.Proof.Leaf Cert.Proof.Body Cert.Proof.Chunk Cert.Proof.Launch
open Idealize.ShloMosaic
open Idealize.ShloMosaic.SparseCore (S V T)
open Idealize.ShloMosaic.SparseCore.Cfg (Pay HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]
open Facts₀

local notation "𝕄" => MT nD τ sig (HIx 1) (Elt F) ℕ UU ℕ

/-! ## The obligation of the call's tiles -/

theorem defs₀_vector (c : Fin τ.nSC) (s : Fin τ.nSub) :
    defs₀ (F := F) (.scVector c s) 0 ()
      = SparseCore.onTile hcore0 hsub0 (fun c s => cc0_stencil_sc (pt c s) (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13) ⟨⟩ c s := rfl

omit [FloatOps F] [Facts] in
/-- A longer list of excuses for a wait. -/
theorem excuse {thr : Thread nD τ} {A B C : sProp 𝕄} {O : CellTallies nD τ sig (HIx 1)} {Ws : Waits sig (HIx 1)} {q : Fin 1} :
    iprop(A ∗ B ∗ C ∗ ∃ W', ⌜∀ p ∈ W', p ∈ Ws ∨ p.2 = none⌝ ∗ owes thr O W')
      ⊢ iprop(A ∗ B ∗ C ∗ ∃ W', ⌜∀ p ∈ W', p ∈ Ws ∨ p.2 = none ∨ p.2 = some q⌝ ∗ owes thr O W') := by
  iintro ⟨HA, HB, HC, %W', %hW', HO⟩
  iframe HA HB HC
  iexists W'
  isplitr
  · ipureintro; intro p hp; exact (hW' p hp).imp_right .inl
  · iexact HO

section Payloads

variable (x : Dev nD → S8372224.Idx → F .f32) (w : Dev nD → S4177936.Idx → F .f32) (b : Dev nD → S16.Idx → F .f32) (o : Dev nD → S4186112.Idx → F .f32)

theorem tileObl (hF : (K (F := F)).Facts) : (K (F := F)).TileObl (D (F := F)) 𝒱 (P x w b o) v₀ 0 := by
  intro d c i O Ws hO _ _
  simp only [show (P x w b o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body x w b o d (pt ⟨_, hci.1⟩ ⟨_, hci.2⟩) hF O Ws hO).trans (wp_mono frame _ _ fun _ => excuse)

/-- A SparseCore's payload is its tiles' together, both ways. -/
theorem vecSplit : (K (F := F)).VecSplit' (P x w b o) 0 := by
  intro d c
  show (bigSep (Finset.univ : Finset (Fin (grid0.bound 1))) fun s => pre x w b o d (pt c s)) ⊢ |={Set.univ}=> iprop(
    (bigSep (Finset.univ : Finset (Fin (grid0.bound 1))) fun s => pre x w b o d (pt c s))
    ∗ ((bigSep (Finset.univ : Finset (Fin (grid0.bound 1))) fun s => post x w b d (pt c s)) -∗ (bigSep (Finset.univ : Finset (Fin (grid0.bound 1))) fun s => post x w b d (pt c s))))
  iintro H
  imodintro
  isplitl [H]; · iexact H
  iintro H
  iexact H

/-! ## The whole arrays over the tiles -/

/-- The result whole, computed wherever the program reads it. -/
abbrev good (d : Dev nD) (f : S4186112.Idx → F .f32) : Prop := ∀ y : S4186112.Idx, (y 0).val % 512 < 511 → f y = outOf (x d) (w d) (b d) (y 0).val

theorem ins_all (d : Dev nD) :
    iprop((xLoc d ↦{fullShare} x d) ∗ (wLoc d ↦{fullShare} w d) ∗ (bLoc d ↦{fullShare} b d))
      = (bigSep Finset.univ fun p : Fin 2 × Fin 16 => (ins x w b d (tl p) : sProp 𝕄)) := by
  unfold ins
  rw [bigSep_sep', bigSep_sep', ← pointsTo_tiles, ← pointsTo_tiles, ← pointsTo_tiles]

theorem res_split (d : Dev nD) (f : S4186112.Idx → F .f32) :
    (oLoc d ↦{fullShare} f : sProp 𝕄) = bigSep Finset.univ fun p : Fin 2 × Fin 16 => oLoc d ↦[tset (tl p)]{fullShare} f := by
  have h := pointsTo_biUnion (ℓ := oLoc d) (q := fullShare) (Val := Elt F) (f := f) (Ix := HIx 1) (Name := ℕ) (U := UU) (Lvl := ℕ) Finset.univ (fun p : Fin 2 × Fin 16 => (tset (tl p) : Finset (Idx (oLoc d)))) (fun p _ q _ h => tset_disjoint p q h)
  rw [show (Finset.univ : Finset (Fin 2 × Fin 16)).biUnion (fun p => (tset (tl p) : Finset (Idx (oLoc d)))) = Finset.univ from tset_cover] at h
  exact h

theorem res_join (d : Dev nD) :
    (bigSep Finset.univ fun p : Fin 2 × Fin 16 => (made x w b d (tl p) : sProp 𝕄)) ⊢ iprop(∃ f : S4186112.Idx → F .f32, ⌜good x w b d f⌝ ∗ oLoc d ↦{fullShare} f) := by
  haveI : Nonempty (S4186112.Idx → F .f32) := ⟨fun _ => FloatOps.ofBits .f32 0⟩
  unfold made
  iintro H
  ihave H := (bigSep_exists_pi Finset.univ (fun (p : Fin 2 × Fin 16) (f : S4186112.Idx → F .f32) =>
    (iprop(⌜∀ y, mine (tl p) (y 0).val ∧ (y 0).val % 512 < 511 → f y = outOf (x d) (w d) (b d) (y 0).val⌝ ∗ (oLoc d ↦[tset (tl p)]{fullShare} f)) : sProp 𝕄))) $$ H
  icases H with ⟨%fs, H⟩
  ihave H := (bigSep_pure_sep Finset.univ) $$ H
  icases H with ⟨%hfs, H⟩
  ihave H := (pointsTo_biUnion_join (ℓ := oLoc d) (q := fullShare) (Val := Elt F) Finset.univ (fun p : Fin 2 × Fin 16 => (tset (tl p) : Finset (Idx (oLoc d)))) fs (fs (0, 0))
    (fun p _ q _ h => tset_disjoint p q h)) $$ H
  icases H with ⟨%g, %hg, H⟩
  iexists g
  isplitr
  · ipureintro
    intro y hy
    have hm : y ∈ (Finset.univ : Finset (Fin 2 × Fin 16)).biUnion (fun p => tset (tl p)) := tset_cover ▸ Finset.mem_univ y
    obtain ⟨p, hp, hyp⟩ := Finset.mem_biUnion.mp hm
    exact (hg p hp y hyp).trans (hfs p hp y ⟨mem_tset.mp hyp, hy⟩)
  · rw [show (Finset.univ : Finset (Fin 2 × Fin 16)).biUnion (fun p => (tset (tl p) : Finset (Idx (oLoc d)))) = Finset.univ from tset_cover]
    iexact H

/-- What the call takes: the operands whole, and the result's array. -/
theorem takes (d : Dev nD) : (bigSep Finset.univ fun c : Fin ((K (F := F)).nCore 0) => (P x w b o).st 0 d c)
    = iprop(((xLoc d ↦{fullShare} x d) ∗ (wLoc d ↦{fullShare} w d) ∗ (bLoc d ↦{fullShare} b d)) ∗ oLoc d ↦{fullShare} o d) := by
  show (bigSep (Finset.univ : Finset (Fin 2)) fun c => bigSep (Finset.univ : Finset (Fin 16)) fun s => pre x w b o d (tl (c, s))) = _
  rw [ins_all, res_split, ← bigSep_sep', bigSep_univ_prod]

/-- What it handsBack back: the operands whole, and the result computed. -/
theorem handsBack (d : Dev nD) : (bigSep Finset.univ fun c : Fin ((K (F := F)).nCore 0) => (P x w b o).dn 0 d c)
    ⊢ iprop(((xLoc d ↦{fullShare} x d) ∗ (wLoc d ↦{fullShare} w d) ∗ (bLoc d ↦{fullShare} b d)) ∗ ∃ f : S4186112.Idx → F .f32, ⌜good x w b d f⌝ ∗ oLoc d ↦{fullShare} f) := by
  show (bigSep (Finset.univ : Finset (Fin 2)) fun c => bigSep (Finset.univ : Finset (Fin 16)) fun s => post x w b d (tl (c, s))) ⊢ _
  rw [← bigSep_univ_prod (fun p : Fin 2 × Fin 16 => (post x w b d (tl p) : sProp 𝕄)), bigSep_sep', ← ins_all]
  iintro ⟨Hi, Ho⟩
  iframe Hi
  iapply (res_join x w b d)
  iexact Ho

/-! ## The launch element of the ghost state -/

def u₀ : UU := (initOf (K (F := F)).hsCells (K (F := F)).hsToks, 1)

omit [FloatOps F] [Facts] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P x w b o).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) x w b o).x q thr) = bigSep Finset.univ fun _ => iprop(emp) from
    bigSep_congr fun _ _ => bigSep_univ_of_subsingleton (0 : Fin 1), emps]
  iempintro

end Payloads

/-! ## The host -/

/-- The operations before the call. -/
abbrev before : List (HloOp τ sig (Elt F)) :=
  [StableHlo.reshape main_arg0 main_v0 rfl shapeCasts_S4x4x523264_S8372224,
   StableHlo.reshape main_arg1 main_v1 rfl shapeCasts_S4x1044484_S4177936,
   StableHlo.nullary main_c (constantI S_ 32 0#32),
   StableHlo.unary main_c main_call0_v0 (sitofp .f32),
   StableHlo.binary main_arg2 main_call0_v0 main_v2 (fun x v => pad S16 ![0] ![12] ![0] x v pads_S4_S16_0120 h_S_)]

/-- The operations after it. -/
abbrev behind : List (HloOp τ sig (Elt F)) :=
  [StableHlo.reshape main_v3 main_v4 rfl shapeCasts_S4186112_S4x4x511x512,
   StableHlo.unary main_v4 main_v5 ((extractStridedSlice S4x4x511x511 ![0, 0, 0, 0] · slices_S4x4x511x512_S4x4x511x511_0_0_0_0) : (⟨S4x4x511x512, .f32⟩ : BufTy).Contents (Elt F) → (⟨S4x4x511x511, .f32⟩ : BufTy).Contents (Elt F)),
   StableHlo.reshape main_v5 main_v6 rfl shapeCasts_S4x4x511x511_S4x4x261121]

theorem main_eq (d : Dev nD) : main (F := F) d = StableHlo.seq before >>= fun _ => sc.run d 0 >>= fun _ => StableHlo.seq behind >>= fun _ => pure ⟨⟩ := rfl

abbrev rx : DevRef τ sig := Proc.devRef .tc (main_v0 : Ref sig .tc)
abbrev rw' : DevRef τ sig := Proc.devRef .tc (main_v1 : Ref sig .tc)
abbrev rb : DevRef τ sig := Proc.devRef .tc (main_v2 : Ref sig .tc)
abbrev ro : DevRef τ sig := Proc.devRef .tc (main_v3 : Ref sig .tc)

/-- The call's arrays. -/
abbrev four : Finset (DevRef τ sig) := {rx, rw', rb, ro}

variable (m : (ℓ : Loc nD τ sig) → Buf (Elt F) ℓ) (ρ : Dev nD → PrngReg)

/-- The TensorCore's arrays at the launch, at the call, after it, and at the end. -/
def V0 (d : Dev nD) : Valuation τ sig (Elt F) := fun b => m (d, b)
def V1 (d : Dev nD) : Valuation τ sig (Elt F) := StableHlo.after before (V0 m d)
def V2 (d : Dev nD) (f : S4186112.Idx → F .f32) : Valuation τ sig (Elt F) := Function.update (V1 m d) ro f
def V3 (d : Dev nD) (f : S4186112.Idx → F .f32) : Valuation τ sig (Elt F) := StableHlo.after behind (V2 m d f)

/-- The call's operands. -/
def xOf (d : Dev nD) : S8372224.Idx → F .f32 := V1 m d rx
def wOf (d : Dev nD) : S4177936.Idx → F .f32 := V1 m d rw'
def bOf (d : Dev nD) : S16.Idx → F .f32 := V1 m d rb
def oOf (d : Dev nD) : S4186112.Idx → F .f32 := V1 m d ro

abbrev PP : (K (F := F)).Pay (nD := nD) (Val := Elt F) (Name := ℕ) (U := UU) := P (xOf m) (wOf m) (bOf m) (oOf m)

theorem held_four (d : Dev nD) (W : Valuation τ sig (Elt F)) :
    (StableHlo.held (SparseCore.T d) four W : sProp 𝕄)
      = iprop(((xLoc d ↦{fullShare} W rx) ∗ (wLoc d ↦{fullShare} W rw') ∗ (bLoc d ↦{fullShare} W rb)) ∗ oLoc d ↦{fullShare} W ro) := by
  unfold StableHlo.held four
  rw [SparseCore.bigSep_insert' (by decide), SparseCore.bigSep_insert' (by decide), SparseCore.bigSep_insert' (by decide), bigSep_singleton]
  refine BI.Entails.antisymm (show (_ : sProp 𝕄) ⊢ _ from ?_) (show (_ : sProp 𝕄) ⊢ _ from ?_)
  · iintro ⟨H1, H2, H3, H4⟩
    isplitr [H4]
    · isplitl [H1]; · iexact H1
      isplitl [H2]; · iexact H2
      iexact H3
    · iexact H4
  · iintro ⟨⟨H1, H2, H3⟩, H4⟩
    isplitl [H1]; · iexact H1
    isplitl [H2]; · iexact H2
    isplitl [H3]; · iexact H3
    iexact H4

theorem four_sub : four ⊆ Pipeline.ucRefs τ sig := by
  intro r hr
  simp only [four, Finset.mem_insert, Finset.mem_singleton] at hr
  unfold Pipeline.ucRefs
  rcases hr with rfl | rfl | rfl | rfl <;> exact Finset.mem_filter.mpr ⟨StableHlo.devRef_mem_tcRefs _, by decide⟩

/-- After the call the arrays are as before it, but for the result's. -/
theorem held_after (d : Dev nD) (f : S4186112.Idx → F .f32) :
    (StableHlo.held (SparseCore.T d) (Pipeline.ucRefs τ sig) (V2 m d f) : sProp 𝕄)
      = iprop((((xLoc d ↦{fullShare} xOf m d) ∗ (wLoc d ↦{fullShare} wOf m d) ∗ (bLoc d ↦{fullShare} bOf m d)) ∗ oLoc d ↦{fullShare} f)
        ∗ StableHlo.held (SparseCore.T d) (Pipeline.ucRefs τ sig \ four) (V1 m d)) := by
  rw [StableHlo.held_sub_split _ four_sub, held_four]
  unfold V2
  rw [Function.update_self, Function.update_of_ne (show rx ≠ ro by decide), Function.update_of_ne (show rw' ≠ ro by decide), Function.update_of_ne (show rb ≠ ro by decide)]
  have e : (StableHlo.held (SparseCore.T d) (Pipeline.ucRefs τ sig \ four) (Function.update (V1 m d) ro f) : sProp 𝕄)
      = StableHlo.held (SparseCore.T d) (Pipeline.ucRefs τ sig \ four) (V1 m d) := by
    refine StableHlo.held_congr _ fun r hr => Function.update_of_ne (fun h => ?_) _ _
    exact (Finset.mem_sdiff.mp hr).2 (by rw [h]; simp [four])
  rw [e]
  rfl

/-- What the program leaves: every array of the TensorCore's, the result computed. -/
abbrev FIN (d : Dev nD) : sProp 𝕄 :=
  iprop(∃ f : S4186112.Idx → F .f32, ⌜good (xOf m) (wOf m) (bOf m) d f⌝ ∗ StableHlo.held (SparseCore.T d) (Pipeline.ucRefs τ sig) (V3 m d f))

theorem held_launch (d : Dev nD) :
    (unscopedBufs d (fun b => m ((SparseCore.T d).loc b)) : sProp 𝕄) = StableHlo.held (SparseCore.T d) (Pipeline.ucRefs τ sig) (V0 m d) :=
  Pipeline.unscopedBufs_held (Ix := HIx 1) (Name := ℕ) (U := UU) (Lvl := ℕ) d (V0 m d)

/-- The program on the TensorCore: from its arrays at the launch to `FIN`. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, held_launch]
  iintro ⟨#Hctx, Hst, ⟨Hb, Hh, Hts, -⟩, -⟩
  iapply (StableHlo.wp_seq 𝒱 none Set.univ d (Pipeline.ucRefs τ sig) _ before
    (fun op h => Pipeline.sub_ucRefs op (by simp only [before, List.mem_cons, List.not_mem_nil, _root_.or_false] at h; rcases h with rfl | rfl | rfl | rfl | rfl <;> simp))
    (fun op h => by simp only [before, List.mem_cons, List.not_mem_nil, _root_.or_false] at h; rcases h with rfl | rfl | rfl | rfl | rfl <;> rfl) (V0 m d)) $$ [Hb Hh]
  · iframe Hb Hh
  iintro ⟨Hb, Hh⟩
  rw [wp_bind]
  ihave Hh := (Entails.of_eq (StableHlo.held_sub_split _ four_sub (StableHlo.after before (V0 m d)))) $$ Hh
  icases Hh with ⟨Hh, Hrest⟩
  ihave Hh := (Entails.of_eq (held_four d _)) $$ Hh
  iapply ((K (F := F)).wp_run (D (F := F)) 𝒱 (EH := EH) (P := PP m) κ d 0) $$ [Hst Hh Hrest Hb Hts]
  isplitr; · iexact Hctx
  isplitl [Hst]; · iexact Hst
  isplitl [Hh]
  · rw [takes]
    iexact Hh
  iintro ⟨Hst, Hdn⟩
  ihave Hdn := (handsBack (xOf m) (wOf m) (bOf m) (oOf m) d) $$ Hdn
  icases Hdn with ⟨Hi, %f, %hf, Ho⟩
  ihave Hh := (Entails.of_eq (held_after m d f).symm) $$ [Hi Ho Hrest]
  · iframe Hi Ho
    iexact Hrest
  iapply (StableHlo.wp_seq 𝒱 none Set.univ d (Pipeline.ucRefs τ sig) _ behind
    (fun op h => Pipeline.sub_ucRefs op (by simp only [behind, List.mem_cons, List.not_mem_nil, _root_.or_false] at h; rcases h with rfl | rfl | rfl <;> simp))
    (fun op h => by simp only [behind, List.mem_cons, List.not_mem_nil, _root_.or_false] at h; rcases h with rfl | rfl | rfl <;> rfl) (V2 m d f)) $$ [Hb Hh]
  · iframe Hb Hh
  iintro ⟨Hb, Hh⟩
  rw [wp_pure]
  imodintro
  isplitl [Hst]; · iexact Hst
  isplitl [Hh]
  · iexists f
    isplitr
    · ipureintro; exact hf
    · iexact Hh
  · isplitl [Hb] <;> iassumption

/-! ## What a final state has -/

def fq (d : Dev nD) (s' : Phys nD τ sig (Elt F)) : Prop :=
  ∃ f : S4186112.Idx → F .f32, good (xOf m) (wOf m) (bOf m) d f ∧ ∀ r ∈ Pipeline.ucRefs τ sig, s'.mem.mem (d, r) = V3 m d f r

theorem hfin (d : Dev nD) (s' : Phys nD τ sig (Elt F)) : iprop(FIN m d ∗ SI s') ⊢ (⌜fq m d s'⌝ : sProp 𝕄) := by
  iintro ⟨⟨%f, %hf, H⟩, HSI⟩
  unfold StableHlo.held
  ihave H := (SI_pointsTo_bufs_agree (st := s') (c := d) (qs := fun _ => fullShare) (F := V3 m d f) (Pipeline.ucRefs τ sig)) $$ [H HSI]
  · isplitl [HSI] <;> iassumption
  icases H with %h
  ipureintro
  exact ⟨f, hf, h⟩

/-- The run's end: on every device the arrays are `V3`'s of a computed result, and every semaphore is zero. -/
def QC : PUnit × MemSt nD τ sig (Elt F) → Prop := fun r =>
  (∀ d : Dev nD, ∃ f : S4186112.Idx → F .f32, good (xOf m) (wOf m) (bOf m) d f ∧ ∀ b ∈ Pipeline.ucRefs τ sig, r.2.mem (d, b) = V3 m d f b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (xOf m) (wOf m) (bOf m) (oOf m) facts)
    (fun q _ => match q with | 0 => SparseCore.Cfg.VecSplit.of_plain (vecSplit (xOf m) (wOf m) (bOf m) (oOf m)))
    m ρ main (fun _ => iprop(emp)) (FIN m) (u₀ (F := F)) (sep_elim_left.trans (hu₀ (xOf m) (wOf m) (bOf m) (oOf m))) (hmain m ρ) (fq m) (hfin m) (QC m) (fun _ h hz => ⟨h, hz⟩)

end Cert.Proof.Host

end
-- ==== Proof.Spec.lean ====
/-
  What the result is, from the five arrays' mathematics: one bias and four weighted edges per intersection.
-/
module

public import proofs.«01_k».proof.Defs
public import Idealize.ShloMosaic.Lib.ValueIdxCore

@[expose] public section

noncomputable section

namespace Cert.Proof.Spec

open Idealize.ShloMosaic Idealize.ShloMosaic.ValueIdx

variable {F : FTy → Type} [FloatOps F]

/-- An edge's value: batch `b`, channel `c`, edge `n` (each wrapping past its end). -/
def edge (X : (⟨3, ![4, 4, 523264]⟩ : Shape).Idx → F .f32) (b c n : ℕ) : F .f32 :=
  X (ix3 ⟨b % 4, Nat.mod_lt _ (by decide)⟩ ⟨c % 4, Nat.mod_lt _ (by decide)⟩ ⟨n % 523264, Nat.mod_lt _ (by decide)⟩)

/-- A weight: channel `c`, place `n`. -/
def weight (W : (⟨2, ![4, 1044484]⟩ : Shape).Idx → F .f32) (c n : ℕ) : F .f32 :=
  W (ix2 ⟨c % 4, Nat.mod_lt _ (by decide)⟩ ⟨n % 1044484, Nat.mod_lt _ (by decide)⟩)

/-- A channel's bias. -/
def bias (B : (⟨1, ![4]⟩ : Shape).Idx → F .f32) (c : ℕ) : F .f32 := B (ix1 ⟨c % 4, Nat.mod_lt _ (by decide)⟩)

/-- The four edges of intersection `r`: above, below, left, right. -/
def edgeOf (r : ℕ) : Fin 4 → ℕ
  | 0 => r
  | 1 => r + 511
  | 2 => 261632 + r + r / 511
  | 3 => 261632 + r + r / 511 + 1

theorem edgeOf_0 (r : ℕ) : edgeOf r 0 = r := rfl
theorem edgeOf_1 (r : ℕ) : edgeOf r 1 = r + 511 := rfl
theorem edgeOf_2 (r : ℕ) : edgeOf r 2 = 261632 + r + r / 511 := rfl
theorem edgeOf_3 (r : ℕ) : edgeOf r 3 = 261632 + r + r / 511 + 1 := rfl

/-- An intersection's edges are edges. -/
theorem edgeOf_lt (r : ℕ) (hr : r < 261121) (t : Fin 4) : edgeOf r t < 523264 := by
  match t with
  | 0 => rw [edgeOf_0]; omega
  | 1 => rw [edgeOf_1]; omega
  | 2 => rw [edgeOf_2]; omega
  | 3 => rw [edgeOf_3]; omega

/-- One product. -/
def term (X : (⟨3, ![4, 4, 523264]⟩ : Shape).Idx → F .f32) (W : (⟨2, ![4, 1044484]⟩ : Shape).Idx → F .f32) (b c r : ℕ) (t : Fin 4) : F .f32 :=
  FloatOps.mulf (edge X b c (edgeOf r t)) (weight W c (4 * r + t.val))

/-- The result: a bias, and the four products added to it in order. -/
def spec (X : (⟨3, ![4, 4, 523264]⟩ : Shape).Idx → F .f32) (W : (⟨2, ![4, 1044484]⟩ : Shape).Idx → F .f32) (B : (⟨1, ![4]⟩ : Shape).Idx → F .f32) :
    (⟨3, ![4, 4, 261121]⟩ : Shape).Idx → F .f32 := fun y =>
  FloatOps.addf (FloatOps.addf (FloatOps.addf (FloatOps.addf (bias B (y 1).val) (term X W (y 0).val (y 1).val (y 2).val 0))
    (term X W (y 0).val (y 1).val (y 2).val 1)) (term X W (y 0).val (y 1).val (y 2).val 2)) (term X W (y 0).val (y 1).val (y 2).val 3)

end Cert.Proof.Spec

end
-- ==== Proof.Value.lean ====
/-
  The kernel program's result as `Spec.spec` of its arguments, and its arguments unchanged.
-/
module

public import proofs.«01_k».proof.Proof.Host
public import proofs.«01_k».proof.Proof.Spec
public import Idealize.ShloMosaic.Lib.Pipeline.Value
public import Idealize.ShloMosaic.Lib.KernelVsHost
public import Idealize.ShloMosaic.Lib.Pipeline.Frame

@[expose] public section

noncomputable section

namespace Cert.Proof.Value

open Cert.KernelIdeal Cert.Proof.Words Cert.Proof.Text Cert.Proof.Leaf Cert.Proof.Body Cert.Proof.Chunk Cert.Proof.Launch Cert.Proof.Host Cert.Proof.Spec Idealize.ShloMosaic.ValueIdx
open Idealize.ShloMosaic
open Idealize.ShloMosaic.SparseCore (S V T)
open Idealize.ShloMosaic.SparseCore.Cfg (Pay HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]
open Facts₀

local notation "𝕄" => MT nD τ sig (HIx 1) (Elt F) ℕ UU ℕ

variable (m : (ℓ : Loc nD τ sig) → Buf (Elt F) ℓ) (d : Dev nD) (f : S4186112.Idx → F .f32)

/-! ## The arrays at the call and at the end -/

/-- The arguments, typed by their shapes. -/
abbrev X : S4x4x523264.Idx → F .f32 := m ((SparseCore.T d).loc main_arg0)
abbrev Wt : S4x1044484.Idx → F .f32 := m ((SparseCore.T d).loc main_arg1)
abbrev Bs : S4.Idx → F .f32 := m ((SparseCore.T d).loc main_arg2)

theorem xOf_eq : xOf m d = shapeCast S8372224 (X m d) shapeCasts_S4x4x523264_S8372224 := by
  unfold xOf V1 V0
  after_results
  rfl

theorem wOf_eq : wOf m d = shapeCast S4177936 (Wt m d) shapeCasts_S4x1044484_S4177936 := by
  unfold wOf V1 V0
  after_results
  rfl

theorem bOf_eq : bOf m d = pad S16 ![0] ![12] ![0] (Bs m d) (sitofp .f32 (constantI S_ 32 0#32)) pads_S4_S16_0120 h_S_ := by
  unfold bOf V1 V0
  after_results

/-- What the program returns, from the kernel's flat result. -/
theorem ret_eq : (V3 m d f (Proc.devRef .tc (main_v6 : Ref sig .tc)) : S4x4x261121.Idx → F .f32)
    = shapeCast S4x4x261121 (extractStridedSlice S4x4x511x511 ![0, 0, 0, 0] (shapeCast S4x4x511x512 f shapeCasts_S4186112_S4x4x511x512)
        slices_S4x4x511x512_S4x4x511x511_0_0_0_0) shapeCasts_S4x4x511x511_S4x4x261121 := by
  unfold V3
  after_results
  unfold V2
  rw [Function.update_self]
  rfl

theorem arg_eq (r : Ref sig .tc) (h : r = main_arg0 ∨ r = main_arg1 ∨ r = main_arg2 ∨ r = main_arg3 ∨ r = main_arg4) :
    V3 m d f (Proc.devRef .tc r) = m (d, Proc.devRef .tc r) := by
  unfold V3
  rcases h with rfl | rfl | rfl | rfl | rfl <;>
    (after_results
     unfold V2
     rw [Function.update_of_ne (by decide)]
     unfold V1
     after_results
     try rfl)

/-! ## The flat operands by their coordinates -/

theorem flat_x (b c n : ℕ) (hb : b < 4) (hc : c < 4) (hn : n < 523264) :
    flat (by decide) (xOf m d) (2093056 * b + 523264 * c + n) = edge (X m d) b c n := by
  rw [xOf_eq]
  unfold flat edge
  refine shapeCast_apply _ _ _ _ ?_
  rw [Shape.rowMajor_val_one, Shape.rowMajor_val_three]
  show (b % 4 * 4 + c % 4) * 523264 + n % 523264 = (2093056 * b + 523264 * c + n) % 8372224
  omega

theorem flat_w (c n : ℕ) (hc : c < 4) (hn : n < 1044484) : flat (by decide) (wOf m d) (1044484 * c + n) = weight (Wt m d) c n := by
  rw [wOf_eq]
  unfold flat weight
  refine shapeCast_apply _ _ _ _ ?_
  rw [Shape.rowMajor_val_one, Shape.rowMajor_val_two]
  show c % 4 * 1044484 + n % 1044484 = (1044484 * c + n) % 4177936
  omega

theorem flat_b (c : ℕ) (hc : c < 4) : flat (by decide) (bOf m d) c = bias (Bs m d) c := by
  rw [bOf_eq]
  unfold flat bias
  refine pad_apply_of_inside _ _ _ _ _ _ _ _ _ fun a => ?_
  obtain rfl : a = 0 := Subsingleton.elim _ _
  show c % 16 = 0 + c % 4 * (0 + 1)
  omega

/-! ## The result -/

theorem out_eq (b c i j : ℕ) (hb : b < 4) (hc : c < 4) (hi : i < 511) (hj : j < 511) (y : S4x4x261121.Idx) (h0 : (y 0).val = b) (h1 : (y 1).val = c) (h2 : (y 2).val = 511 * i + j) :
    outOf (xOf m d) (wOf m d) (bOf m d) (1046528 * b + 261632 * c + 512 * i + j) = spec (X m d) (Wt m d) (Bs m d) y := by
  unfold outOf out spec acc1 term
  have e1 : (1046528 * b + 261632 * c + 512 * i + j) / 1046528 = b := by omega
  have e2 : (1046528 * b + 261632 * c + 512 * i + j) / 261632 % 4 = c := by omega
  have e3 : (1046528 * b + 261632 * c + 512 * i + j) % 261632 = 512 * i + j := by omega
  have e4 : (512 * i + j) / 512 = i := by omega
  have e5 : (512 * i + j) % 512 = j := by omega
  have e6 : (511 * i + j) / 511 = i := by omega
  have hr : 511 * i + j < 261121 := by omega
  simp only [e1, e2, e3, e4, e5, h0, h1, h2]
  rw [flat_b m d c hc]
  rw [show 2093056 * b + 523264 * c + 511 * i + j = 2093056 * b + 523264 * c + edgeOf (511 * i + j) 0 by rw [edgeOf_0]; omega,
    show 2093056 * b + 523264 * c + 511 * (i + 1) + j = 2093056 * b + 523264 * c + edgeOf (511 * i + j) 1 by rw [edgeOf_1]; omega,
    show 2093056 * b + 523264 * c + 261632 + (512 * i + j) + 1 = 2093056 * b + 523264 * c + edgeOf (511 * i + j) 3 by rw [edgeOf_3]; omega,
    show 2093056 * b + 523264 * c + 261632 + (512 * i + j) = 2093056 * b + 523264 * c + edgeOf (511 * i + j) 2 by rw [edgeOf_2]; omega,
    show 1044484 * c + 2044 * i + 4 * j + 1 = 1044484 * c + (4 * (511 * i + j) + 1) by omega,
    show 1044484 * c + 2044 * i + 4 * j + 2 = 1044484 * c + (4 * (511 * i + j) + 2) by omega,
    show 1044484 * c + 2044 * i + 4 * j + 3 = 1044484 * c + (4 * (511 * i + j) + 3) by omega,
    show 1044484 * c + 2044 * i + 4 * j = 1044484 * c + (4 * (511 * i + j) + 0) by omega]
  rw [flat_x m d b c _ hb hc (edgeOf_lt _ hr _), flat_x m d b c _ hb hc (edgeOf_lt _ hr _), flat_x m d b c _ hb hc (edgeOf_lt _ hr _),
    flat_x m d b c _ hb hc (edgeOf_lt _ hr _), flat_w m d c _ hc (by omega), flat_w m d c _ hc (by omega), flat_w m d c _ hc (by omega), flat_w m d c _ hc (by omega)]
  rfl

/-- The program's result, element by element. -/
theorem value (hf : good (xOf m) (wOf m) (bOf m) d f) :
    (V3 m d f (Proc.devRef .tc (main_v6 : Ref sig .tc)) : S4x4x261121.Idx → F .f32) = spec (X m d) (Wt m d) (Bs m d) := by
  rw [ret_eq]
  funext y
  have hb : (y 0).val < 4 := (y 0).isLt
  have hc : (y 1).val < 4 := (y 1).isLt
  have hr : (y 2).val < 261121 := (y 2).isLt
  rw [shapeCast_apply _ _ y (ix4 ⟨(y 0).val, hb⟩ ⟨(y 1).val, hc⟩ ⟨(y 2).val / 511, by omega⟩ ⟨(y 2).val % 511, by omega⟩ : S4x4x511x511.Idx) (by
    rw [Shape.rowMajor_val_four, Shape.rowMajor_val_three]
    show (((y 0).val * 4 + (y 1).val) * 511 + (y 2).val / 511) * 511 + (y 2).val % 511 = ((y 0).val * 4 + (y 1).val) * 261121 + (y 2).val
    omega)]
  rw [extractStridedSlice_apply _ _ _ _ (ix4 ⟨(y 0).val, hb⟩ ⟨(y 1).val, hc⟩ ⟨(y 2).val / 511, by omega⟩ ⟨(y 2).val % 511, by omega⟩ : S4x4x511x512.Idx) (by
    intro a
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm)]
  have hn : 1046528 * (y 0).val + 261632 * (y 1).val + 512 * ((y 2).val / 511) + (y 2).val % 511 < 4186112 := by omega
  rw [shapeCast_apply _ _ _ (ix1 ⟨1046528 * (y 0).val + 261632 * (y 1).val + 512 * ((y 2).val / 511) + (y 2).val % 511, hn⟩ : S4186112.Idx) (by
    rw [Shape.rowMajor_val_four, Shape.rowMajor_val_one]
    show 1046528 * (y 0).val + 261632 * (y 1).val + 512 * ((y 2).val / 511) + (y 2).val % 511
      = (((y 0).val * 4 + (y 1).val) * 511 + (y 2).val / 511) * 512 + (y 2).val % 511
    omega)]
  rw [hf _ (by show (1046528 * (y 0).val + 261632 * (y 1).val + 512 * ((y 2).val / 511) + (y 2).val % 511) % 512 < 511; omega)]
  exact out_eq m d (y 0).val (y 1).val ((y 2).val / 511) ((y 2).val % 511) hb hc (by omega) (by omega) y rfl rfl (by omega)

/-- The run's end, as the claims read it: the result `spec` of the arguments, the arguments unchanged, every semaphore zero. -/
theorem run_spec [∀ e, Nonempty (Elt F e)] (ρ : Dev nD → PrngReg) :
    θ_run (Cert.KernelIdeal.defs (F := F)) (Cert.KernelIdeal.threads (F := F)) ⟨m, fun _ => 0, ρ⟩ fun r =>
      (∀ d : Dev nD, (r.2.mem ((d.tc : Thread nD τ).loc main_v6) : S4x4x261121.Idx → F .f32) = spec (X m d) (Wt m d) (Bs m d)
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4))
      ∧ r.2.sem = fun _ => 0 := by
  refine (θ_run Cert.KernelIdeal.defs _ _).mono (fun r h => ⟨fun d => ?_, h.2⟩) (run_main m ρ)
  obtain ⟨f, hf, hm⟩ := h.1 d
  have get (b : Ref sig .tc) (hb : b.isScoped = false) : r.2.mem ((d.tc : Thread nD τ).loc b) = V3 m d f (Proc.devRef .tc b) :=
    hm _ (Finset.mem_filter.mpr ⟨StableHlo.devRef_mem_tcRefs b, by show ¬ (b.isScoped = true); rw [hb]; decide⟩)
  exact ⟨(get main_v6 (by decide)).trans (value m d f hf),
    (get main_arg0 (by decide)).trans (arg_eq m d f _ (.inl rfl)),
    (get main_arg1 (by decide)).trans (arg_eq m d f _ (.inr (.inl rfl))),
    (get main_arg2 (by decide)).trans (arg_eq m d f _ (.inr (.inr (.inl rfl)))),
    (get main_arg3 (by decide)).trans (arg_eq m d f _ (.inr (.inr (.inr (.inl rfl))))),
    (get main_arg4 (by decide)).trans (arg_eq m d f _ (.inr (.inr (.inr (.inr rfl)))))⟩

end Cert.Proof.Value

end
-- ==== Proof.Pre.lean ====
/-
  What the precondition says of the two index arrays, entry by entry.
-/
module

public import proofs.«01_k».proof.Proof.Spec
public import proofs.«01_k».proof.Proof.Gen.Pre_fixed_indices
public import Idealize.ShloMosaic.Lib.ReduceAll
public import Idealize.ShloMosaic.Lib.Affine
public import Idealize.ShloMosaic.Lib.Routing.BitFacts

@[expose] public section

noncomputable section

namespace Cert.Proof.Pre

open Idealize.ShloMosaic Idealize.ShloMosaic.ValueIdx Idealize.ShloMosaic.Routing Cert.Pre_fixed_indices Cert.Proof.Spec
open Cert.Pre_fixed_indices.Facts

variable {F : FTy → Type} [FloatOps F] [Cert.Pre_fixed_indices.Facts]

/-! ## Nonnegative words: division, remainder, sign -/

/-- The word of a positive number below `2 ^ 31` is not zero and not negative. -/
theorem pos_word (k : ℕ) (hk : 0 < k) (hk' : k < 2 ^ 31) : 0 < (BitVec.ofNat 32 k).toInt := by
  rw [BitVec.toInt_eq_toNat_of_lt (by rw [BitVec.toNat_ofNat]; omega), BitVec.toNat_ofNat]
  omega

theorem div_word (n k : ℕ) (hn : n < 2 ^ 31) (hk : 0 < k) (hk' : k < 2 ^ 31) :
    IntOp.divsi .host (BitVec.ofNat 32 n) (BitVec.ofNat 32 k) = BitVec.ofNat 32 (n / k) := by
  unfold IntOp.divsi
  rw [if_neg (IntOp.not_corner_of_pos (pos_word k hk hk'))]
  exact sdiv_ofNat32 hn hk'

theorem rem_word (n k : ℕ) (hn : n < 2 ^ 31) (hk : 0 < k) (hk' : k < 2 ^ 31) :
    IntOp.remsi .host (BitVec.ofNat 32 n) (BitVec.ofNat 32 k) = BitVec.ofNat 32 (n % k) := by
  rw [IntOp.remsi_of_pos _ (pos_word k hk hk')]
  exact srem_ofNat32 hn hk'

/-- A word's sign: 0, -1 or 1. -/
def sign (x : BitVec 32) : BitVec 32 := if x = 0 then 0 else if x.msb then -1 else 1

theorem sign_pos (k : ℕ) (hk : 0 < k) (hk' : k < 2 ^ 31) : sign (BitVec.ofNat 32 k) = 1 := by
  unfold sign
  rw [if_neg (fun h => by have := pos_word k hk hk'; rw [h] at this; exact absurd this (by decide)), if_neg (by rw [msb_ofNat32 hk']; decide)]

/-- Different words do not compare equal, and equal ones do. -/
theorem eq_word (a b : ℕ) (ha : a < 2 ^ 31) (hb : b < 2 ^ 31) : IntOp.cmpi .eq (BitVec.ofNat 32 a) (BitVec.ofNat 32 b) = if a = b then 1#1 else 0#1 := by
  by_cases h : a = b
  · rw [if_pos h, h]; exact IntOp.cmpi_eq.2 rfl
  · rw [if_neg h]
    unfold IntOp.cmpi
    have : BitVec.ofNat 32 a ≠ BitVec.ofNat 32 b := fun e => by
      have := congrArg BitVec.toNat e
      rw [BitVec.toNat_ofNat, BitVec.toNat_ofNat] at this
      omega
    show BitVec.ofBool (BitVec.ofNat 32 a == BitVec.ofNat 32 b) = 0#1
    rw [beq_false_of_ne this]; rfl

theorem ne_self (x : BitVec 32) : IntOp.cmpi .ne x x = 0#1 := by
  unfold IntOp.cmpi
  show BitVec.ofBool (x != x) = 0#1
  rw [bne_self_eq_false]; rfl

theorem andi_zero_left (c : BitVec 1) : IntOp.andi 0#1 c = 0#1 := by revert c; decide
theorem andi_zero_right (c : BitVec 1) : IntOp.andi c 0#1 = 0#1 := by revert c; decide

/-! ## The printed floor division and remainder, at an index -/

variable (x : IVec S1044484 32) (i : S1044484.Idx)

theorem floor_divide_apply (n k : ℕ) (hx : x i = BitVec.ofNat 32 n) (hn : n < 2 ^ 31) (hk : 0 < k) (hk' : k < 2 ^ 31) :
    fn_floor_divide (F := F) x (constantI S_ 32 (BitVec.ofNat 32 k)) i = BitVec.ofNat 32 (n / k) := by
  show Scalar.select (IntOp.andi (IntOp.cmpi .ne (sign (x i)) (sign (BitVec.ofNat 32 k))) (IntOp.cmpi .ne (IntOp.remsi .host (x i) (BitVec.ofNat 32 k)) 0#32))
    (IntOp.subi (IntOp.divsi .host (x i) (BitVec.ofNat 32 k)) 1#32) (IntOp.divsi .host (x i) (BitVec.ofNat 32 k)) = _
  rw [hx, div_word n k hn hk hk', rem_word n k hn hk hk']
  rcases Nat.eq_zero_or_pos n with rfl | h
  · rw [Nat.zero_mod, show (0#32 : BitVec 32) = BitVec.ofNat 32 0 from rfl, ne_self, andi_zero_right]
    rfl
  · rw [sign_pos n h hn, sign_pos k hk hk', ne_self, andi_zero_left]
    rfl

theorem remainder_apply (n : ℕ) (hx : x i = BitVec.ofNat 32 n) (hn : n < 2 ^ 31) :
    fn_remainder (F := F) x (constantI S_ 32 4#32) i = BitVec.ofNat 32 (n % 4) := by
  show Scalar.select (IntOp.andi (IntOp.cmpi .ne (IntOp.cmpi .slt (IntOp.remsi .host (x i) 4#32) 0#32) (IntOp.cmpi .slt (4#32) 0#32))
      (IntOp.cmpi .ne (IntOp.remsi .host (x i) 4#32) 0#32)) (IntOp.addi (IntOp.remsi .host (x i) 4#32) 4#32) (IntOp.remsi .host (x i) 4#32) = _
  rw [hx, rem_word n 4 hn (by decide) (by decide)]
  have h : n % 4 = 0 ∨ n % 4 = 1 ∨ n % 4 = 2 ∨ n % 4 = 3 := by omega
  rcases h with h | h | h | h <;> rw [h] <;> decide

/-! ## The closed forms -/

/-- Entry `n` of the row array's closed form. -/
theorem rows_apply (n : ℕ) (hi : (i 0).val = n) :
    fn_floor_divide (F := F) (iotaInDim S1044484 32 0) (constantI S_ 32 4#32) i = BitVec.ofNat 32 (n / 4) := by
  have hn : (i 0).val < 1044484 := (i 0).isLt
  exact floor_divide_apply _ i n 4 (by rw [← hi]; rfl) (by omega) (by decide) (by decide)

/-- The choice among four words by a number below four. -/
theorem choose (t : Fin 4) (a : Fin 4 → BitVec 32) :
    Scalar.select (IntOp.cmpi .eq (BitVec.ofNat 32 t.val) 0#32) (a 0) (Scalar.select (IntOp.cmpi .eq (BitVec.ofNat 32 t.val) 1#32) (a 1)
      (Scalar.select (IntOp.cmpi .eq (BitVec.ofNat 32 t.val) 2#32) (a 2) (a 3))) = a t := by
  match t with
  | 0 => rfl
  | 1 => rfl
  | 2 => rfl
  | 3 => rfl

/-- The precondition, entry by entry: row `n / 4`, and the edge that its intersection has at `n % 4`. -/
theorem indices (a0 : FVec F S4x4x523264 .f32) (a1 : FVec F S4x1044484 .f32) (a2 : FVec F S4 .f32) (a3 a4 : IVec S1044484 32)
    (h : fn (F := F) a0 a1 a2 a3 a4 = fun _ => 1#1) (n : ℕ) (hi : (i 0).val = n) :
    a3 i = BitVec.ofNat 32 (n / 4) ∧ a4 i = BitVec.ofNat 32 (edgeOf (n / 4) ⟨n % 4, Nat.mod_lt _ (by decide)⟩) := by
  have hn : n < 1044484 := hi ▸ (i 0).isLt
  haveI : Subsingleton S_.Idx := ⟨fun a b => funext fun k => k.elim0⟩
  have h0 := congrFun h (fun k : Fin 0 => k.elim0)
  obtain ⟨hr, hc⟩ := IntOp.andi_eq_one.1 h0
  have er := IntOp.cmpi_eq.1 (Host.reduce_andi_all _ _ reducesTo_S1044484_S_d0 h_S_ _ hr i)
  have ec := IntOp.cmpi_eq.1 (Host.reduce_andi_all _ _ reducesTo_S1044484_S_d0 h_S_ _ hc i)
  have e1 := rows_apply (F := F) i n hi
  have e2 := remainder_apply (F := F) (iotaInDim S1044484 32 0) i n (by rw [← hi]; rfl) (by omega)
  have e3 := floor_divide_apply (F := F) (fn_floor_divide (F := F) (iotaInDim S1044484 32 0) (constantI S_ 32 4#32)) i (n / 4) 511 e1 (by omega) (by decide) (by decide)
  refine ⟨er.trans e1, ec.trans ?_⟩
  rw [← choose ⟨n % 4, Nat.mod_lt _ (by decide)⟩ fun t => BitVec.ofNat 32 (edgeOf (n / 4) t)]
  show Scalar.select (IntOp.cmpi .eq (fn_remainder (F := F) (iotaInDim S1044484 32 0) (constantI S_ 32 4#32) i) 0#32)
    (fn_floor_divide (F := F) (iotaInDim S1044484 32 0) (constantI S_ 32 4#32) i)
    (Scalar.select (IntOp.cmpi .eq (fn_remainder (F := F) (iotaInDim S1044484 32 0) (constantI S_ 32 4#32) i) 1#32)
      (fn_floor_divide (F := F) (iotaInDim S1044484 32 0) (constantI S_ 32 4#32) i + 511#32)
      (Scalar.select (IntOp.cmpi .eq (fn_remainder (F := F) (iotaInDim S1044484 32 0) (constantI S_ 32 4#32) i) 2#32)
        (261632#32 + fn_floor_divide (F := F) (iotaInDim S1044484 32 0) (constantI S_ 32 4#32) i
          + fn_floor_divide (F := F) (fn_floor_divide (F := F) (iotaInDim S1044484 32 0) (constantI S_ 32 4#32)) (constantI S_ 32 511#32) i)
        (261632#32 + fn_floor_divide (F := F) (iotaInDim S1044484 32 0) (constantI S_ 32 4#32) i
          + fn_floor_divide (F := F) (fn_floor_divide (F := F) (iotaInDim S1044484 32 0) (constantI S_ 32 4#32)) (constantI S_ 32 511#32) i + 1#32))) = _
  rw [e1, e2, e3]
  simp only [edgeOf_0, edgeOf_1, edgeOf_2, edgeOf_3, BitVec.ofNat_add]

end Cert.Proof.Pre

end
-- ==== Proof.Ref.lean ====
/-
  The reference's result, at the extended reals, as `Spec.spec` of its arguments.
-/
module

public import proofs.«01_k».proof.Proof.Pre
public import proofs.«01_k».proof.Proof.Gen.ReferenceIdeal.Run
public import Idealize.ShloMosaic.Lib.StableHlo.Predicate
public import Idealize.ShloMosaic.Lib.IdealHost

@[expose] public section

noncomputable section

namespace Cert.Proof.Ref

open Idealize.ShloMosaic Idealize.ShloMosaic.ValueIdx Cert.Proof.Spec

/-! ## Three host operations read at an index -/

section Ops
variable {α : Type}

/-- A broadcast reads its operand at the coordinates it keeps. -/
theorem bcast_apply {s t : Shape} (dims : Fin s.rank → Fin t.rank) (h : s.BroadcastsInDim t dims) (x : s.Idx → α) (j : t.Idx) (k : s.Idx)
    (hk : ∀ a, (k a).val = if s.size a = 1 then 0 else (j (dims a)).val) : broadcastInDim t dims h x j = x k := by
  unfold broadcastInDim
  refine congrArg x (funext fun a => Fin.ext ?_)
  rw [hk a]
  by_cases h1 : s.size a = 1
  · rw [dif_pos h1, if_pos h1]
  · rw [dif_neg h1, if_neg h1]

variable (R C N M : ℕ)

/-- The gather along the last axis: `x[:, :, idx]`. -/
abbrev takeLast (wf : GatherDims.WF ⟨3, ![R, C, N]⟩ ⟨2, ![M, 1]⟩ ⟨3, ![R, C, M]⟩ [0, 1] [2] [] [2] [] 1 ![R, C, 1]) :
    GatherDims ⟨3, ![R, C, N]⟩ ⟨2, ![M, 1]⟩ ⟨3, ![R, C, M]⟩ where
  offsetDims := [0, 1]
  collapsedSliceDims := [2]
  operandBatchingDims := []
  startIndicesBatchingDims := []
  startIndexMap := [2]
  indexVectorDim := 1
  sliceSizes := ![R, C, 1]
  wf := wf

/-- The scatter along the last axis: `x.at[:, :, idx]`. -/
abbrev putLast (wf : ScatterDims.WF ⟨3, ![R, C, N]⟩ ⟨2, ![M, 1]⟩ ⟨3, ![R, C, M]⟩ [0, 1] [2] [2] 1) :
    ScatterDims ⟨3, ![R, C, N]⟩ ⟨2, ![M, 1]⟩ ⟨3, ![R, C, M]⟩ where
  updateWindowDims := [0, 1]
  insertedWindowDims := [2]
  scatterDimsToOperandDims := [2]
  indexVectorDim := 1
  wf := wf

variable {R C N M}

/-- The gather's element: the operand's, at the word that the index array holds (when that is a place of the axis). -/
theorem take_apply (wf) (x : (⟨3, ![R, C, N]⟩ : Shape).Idx → α) (idx : IVec ⟨2, ![M, 1]⟩ 32) (b : Fin R) (c : Fin C) (e : Fin M) (n : Fin N)
    (hn : (idx (ix2 e 0)).toInt = n.val) : Host.gather (takeLast R C N M wf) x idx (ix3 b c e) = x (ix3 b c n) := by
  unfold Host.gather
  congr 1
  funext a
  refine Fin.ext ?_
  show (takeLast R C N M wf).start (ix3 b c e) idx a + (takeLast R C N M wf).batchCoord (ix3 b c e) a + (takeLast R C N M wf).offCoord (ix3 b c e) a = _
  rw [GatherDims.batchCoord_eq_zero _ _ _ List.not_mem_nil]
  match a with
  | ⟨0, _⟩ => show 0 + 0 + b.val = b.val; omega
  | ⟨1, _⟩ => show 0 + 0 + c.val = c.val; omega
  | ⟨2, _⟩ =>
    have hsi : (takeLast R C N M wf).siIdx (ix3 b c e) ⟨List.idxOf (2 : Fin 3) (takeLast R C N M wf).startIndexMap,
        List.idxOf_lt_length_iff.2 (List.mem_singleton.mpr rfl)⟩ = ix2 e 0 := by
      funext k; refine Fin.ext ?_
      match k with
      | ⟨0, _⟩ => rfl
      | ⟨1, _⟩ => rfl
    have hs : (takeLast R C N M wf).start (ix3 b c e) idx 2 = min (idx (ix2 e 0)).toInt.toNat (N - 1) := by
      unfold GatherDims.start
      rw [dif_pos (show (2 : Fin 3) ∈ (takeLast R C N M wf).startIndexMap from List.mem_singleton.mpr rfl), hsi]
      rfl
    have ho : (takeLast R C N M wf).offCoord (ix3 b c e) 2 = 0 :=
      GatherDims.offCoord_eq_zero _ _ _ fun h => ((GatherDims.mem_sKept _ _).mp h).1 (List.mem_singleton.mpr rfl)
    show (takeLast R C N M wf).start (ix3 b c e) idx 2 + 0 + (takeLast R C N M wf).offCoord (ix3 b c e) 2 = n.val
    rw [hs, ho, hn]
    have := n.isLt
    omega

/-- Where the scatter puts an update: at the word that the index array holds (when that is a place of the axis). -/
theorem put_apply (wf) (idx : IVec ⟨2, ![M, 1]⟩ 32) (b : Fin R) (c : Fin C) (e : Fin M) (n : Fin N)
    (hn : (idx (ix2 e 0)).toInt = n.val) : (putLast R C N M wf).resultIdx? (ix3 b c e) idx = some (ix3 b c n) := by
  have hsi : (putLast R C N M wf).siIdx (ix3 b c e) ⟨List.idxOf (2 : Fin 3) (putLast R C N M wf).scatterDimsToOperandDims,
      List.idxOf_lt_length_iff.2 (List.mem_singleton.mpr rfl)⟩ = ix2 e 0 := by
    funext k; refine Fin.ext ?_
    match k with
    | ⟨0, _⟩ => rfl
    | ⟨1, _⟩ => rfl
  have hs : (putLast R C N M wf).start (ix3 b c e) idx 2 = n.val := by
    unfold ScatterDims.start
    rw [dif_pos (show (2 : Fin 3) ∈ (putLast R C N M wf).scatterDimsToOperandDims from List.mem_singleton.mpr rfl), hsi, hn]
  have hz : ∀ a, (putLast R C N M wf).start (ix3 b c e) idx a + (putLast R C N M wf).window (ix3 b c e) a = ((ix3 b c n : (⟨3, ![R, C, N]⟩ : Shape).Idx) a).val := by
    intro a
    match a with
    | ⟨0, _⟩ => show (0 : ℤ) + (b.val : ℕ) = b.val; omega
    | ⟨1, _⟩ => show (0 : ℤ) + (c.val : ℕ) = c.val; omega
    | ⟨2, _⟩ =>
      show (putLast R C N M wf).start (ix3 b c e) idx 2 + ((0 : ℕ) : ℤ) = n.val
      rw [hs]; omega
  unfold ScatterDims.resultIdx?
  rw [dif_pos fun a => by
    rw [hz a]
    have := ((ix3 b c n : (⟨3, ![R, C, N]⟩ : Shape).Idx) a).isLt
    omega]
  refine congrArg some (funext fun a => Fin.ext ?_)
  show ((putLast R C N M wf).start (ix3 b c e) idx a + (putLast R C N M wf).window (ix3 b c e) a).toNat = _
  rw [hz a]; exact Int.toNat_natCast _

end Ops

/-! ## The reference's term -/

open Cert.ReferenceIdeal Cert.ReferenceIdeal.Gen

variable (x : S4x4x523264.Idx → EReal) (w : S4x1044484.Idx → EReal) (bs : S4.Idx → EReal) (rows cols : IVec S1044484 32)

/-- An index array as the reference reads it: a negative word counts from the axis's end. -/
abbrev wrap (n : BitVec 32) (a : IVec S1044484 32) : IVec S1044484x1 32 :=
  broadcastInDim S1044484x1 ![0] bcast_S1044484_S1044484x1_0 (select (cmpi .slt a (broadcastInDim S1044484 ![] bcast_S_S1044484 (constantI S_ 32 0#32)))
    (addi a (broadcastInDim S1044484 ![] bcast_S_S1044484 (constantI S_ 32 n))) a)

/-- The products that the reference scatters. -/
abbrev products : S4x4x1044484.Idx → EReal :=
  mulf (F := Ideal) (φ := .f32) (Host.gather gather_S4x4x523264_S1044484x1_S4x4x1044484_01_2_n_n_2_1_441 x (wrap 523264#32 cols))
    (broadcastInDim S4x4x1044484 ![0, 1, 2] bcast_S1x4x1044484_S4x4x1044484_0_1_2 (broadcastInDim S1x4x1044484 ![1, 2] bcast_S4x1044484_S1x4x1044484_1_2 w))

/-- The reference's result, as its run states it. -/
abbrev result : S4x4x261121.Idx → EReal :=
  addf (F := Ideal) (φ := .f32) (Host.scatterAdd (F := Ideal) (φ := .f32) scatter_S4x4x261121_S1044484x1_S4x4x1044484_01_2_2_1
      (broadcastInDim S4x4x261121 ![] bcast_S_S4x4x261121 (constant (F := Ideal) S_ .f32 0x00000000#32)) (wrap 261121#32 rows) (products x w cols))
    (broadcastInDim S4x4x261121 ![0, 1, 2] bcast_S1x4x1_S4x4x261121_0_1_2 (broadcastInDim S1x4x1 ![1] bcast_S4_S1x4x1_1 bs))

theorem wrap_apply (n : BitVec 32) (a : IVec S1044484 32) (e : Fin 1044484) (v : ℕ) (hv : v < 2 ^ 31) (h : a (ix1 e) = BitVec.ofNat 32 v) :
    (wrap n a (ix2 e 0)).toInt = v := by
  have e1 : wrap n a (ix2 e 0) = BitVec.ofNat 32 v := by
    refine (bcast_apply _ _ _ (ix2 e 0) (ix1 e) fun k => ?_).trans ?_
    · obtain rfl : k = 0 := Subsingleton.elim _ _
      exact (if_neg (show ¬ (1044484 : ℕ) = 1 by decide)).symm
    · show Scalar.select (IntOp.cmpi .slt (a (ix1 e)) 0#32) (IntOp.addi (a (ix1 e)) n) (a (ix1 e)) = _
      rw [h]
      unfold Scalar.select
      rw [if_neg fun hc => ?_]
      have hc' := IntOp.cmpi_slt.1 hc
      rw [StableHlo.Predicate.toInt_ofNat_small v hv, show ((0#32 : BitVec 32)).toInt = 0 from rfl] at hc'
      omega
  rw [e1, StableHlo.Predicate.toInt_ofNat_small v hv]

section Value

variable (hr : ∀ n (h : n < 1044484), rows (ix1 ⟨n, h⟩) = BitVec.ofNat 32 (n / 4))
  (hc : ∀ n (h : n < 1044484), cols (ix1 ⟨n, h⟩) = BitVec.ofNat 32 (edgeOf (n / 4) ⟨n % 4, Nat.mod_lt _ (by decide)⟩))

include hc in
/-- A product: the edge's value and the place's weight. -/
theorem products_apply (b c : Fin 4) (e : Fin 1044484) :
    products x w cols (ix3 b c e) = x (ix3 b c ⟨edgeOf (e.val / 4) ⟨e.val % 4, Nat.mod_lt _ (by decide)⟩, edgeOf_lt _ (by have := e.isLt; omega) _⟩) * w (ix2 c e) := by
  have hlt := edgeOf_lt (e.val / 4) (by have := e.isLt; omega) ⟨e.val % 4, Nat.mod_lt _ (by decide)⟩
  show Host.gather _ x _ (ix3 b c e) * broadcastInDim S4x4x1044484 _ _ _ (ix3 b c e) = _
  congr 1
  · exact take_apply _ x (wrap 523264#32 cols) b c e ⟨_, hlt⟩ (wrap_apply _ cols e _ (by omega) (hc e.val e.isLt))
  · refine (bcast_apply _ _ _ (ix3 b c e) (ix3 0 c e) fun k => ?_).trans (bcast_apply _ _ _ (ix3 0 c e) (ix2 c e) fun k => ?_)
    · match k with
      | ⟨0, _⟩ => exact (if_pos rfl).symm
      | ⟨1, _⟩ => exact (if_neg (show ¬ (4 : ℕ) = 1 by decide)).symm
      | ⟨2, _⟩ => exact (if_neg (show ¬ (1044484 : ℕ) = 1 by decide)).symm
    · match k with
      | ⟨0, _⟩ => exact (if_neg (show ¬ (4 : ℕ) = 1 by decide)).symm
      | ⟨1, _⟩ => exact (if_neg (show ¬ (1044484 : ℕ) = 1 by decide)).symm

/-- The four places of intersection `r`. -/
def place (b c : Fin 4) (r : Fin 261121) (t : Fin 4) : S4x4x1044484.Idx :=
  ix3 b c ⟨4 * r.val + t.val, by have := r.isLt; have := t.isLt; omega⟩

theorem place_injective (b c : Fin 4) (r : Fin 261121) : Function.Injective (place b c r) := by
  intro t t' h
  have := congrArg Fin.val (congrFun h 2)
  have h : 4 * r.val + t.val = 4 * r.val + t'.val := this
  exact Fin.ext (by omega)

include hr in
/-- The updates that land at intersection `r` are its four places'. -/
theorem landing (b c : Fin 4) (r : Fin 261121) :
    (Finset.univ.filter fun j => scatter_S4x4x261121_S1044484x1_S4x4x1044484_01_2_2_1.resultIdx? j (wrap 261121#32 rows) = some (ix3 b c r))
      = Finset.univ.map ⟨place b c r, place_injective b c r⟩ := by
  ext j
  rw [Finset.mem_filter, Finset.mem_map]
  obtain ⟨b', c', e, rfl⟩ : ∃ b' c' e, j = ix3 b' c' e := ⟨j 0, j 1, j 2, eq_ix3 j⟩
  have he := e.isLt
  have hput := put_apply (N := 261121) scatter_S4x4x261121_S1044484x1_S4x4x1044484_01_2_2_1_wf (wrap 261121#32 rows) b' c' e ⟨e.val / 4, by omega⟩
    (wrap_apply _ rows e _ (by omega) (hr e.val he))
  constructor
  · rintro ⟨-, h⟩
    have h' := Option.some.inj (hput.symm.trans h)
    obtain rfl : b' = b := congrFun h' 0
    obtain rfl : c' = c := congrFun h' 1
    have h2 : e.val / 4 = r.val := congrArg Fin.val (congrFun h' 2)
    refine ⟨⟨e.val % 4, Nat.mod_lt _ (by decide)⟩, Finset.mem_univ _, ?_⟩
    show place b' c' r _ = _
    unfold place
    congr 1
    exact Fin.ext (by show 4 * r.val + e.val % 4 = e.val; omega)
  · rintro ⟨t, -, h⟩
    have h : place b c r t = ix3 b' c' e := h
    obtain rfl : b = b' := congrFun h 0
    obtain rfl : c = c' := congrFun h 1
    have h2 : 4 * r.val + t.val = e.val := congrArg Fin.val (congrFun h 2)
    refine ⟨Finset.mem_univ _, hput.trans (congrArg some ?_)⟩
    congr 1
    exact Fin.ext (by show e.val / 4 = r.val; have := t.isLt; omega)

include hc in
/-- A place's product is the intersection's term. -/
theorem products_place (b c : Fin 4) (r : Fin 261121) (t : Fin 4) :
    products x w cols (place b c r t) = term (F := Ideal) x w b.val c.val r.val t := by
  have hr' := r.isLt
  have ht := t.isLt
  unfold place
  rw [products_apply x w cols hc]
  unfold term edge weight
  show _ = _ * _
  have e1 : (4 * r.val + t.val) / 4 = r.val := by omega
  have e2 : (⟨(4 * r.val + t.val) % 4, Nat.mod_lt _ (by decide)⟩ : Fin 4) = t := Fin.ext (by show (4 * r.val + t.val) % 4 = t.val; omega)
  have hb : (⟨b.val % 4, Nat.mod_lt _ (by decide)⟩ : Fin 4) = b := Fin.ext (Nat.mod_eq_of_lt b.isLt)
  have hcc : (⟨c.val % 4, Nat.mod_lt _ (by decide)⟩ : Fin 4) = c := Fin.ext (Nat.mod_eq_of_lt c.isLt)
  rw [hb, hcc]
  congr 1
  · congr 2
    refine Fin.ext ?_
    show edgeOf ((4 * r.val + t.val) / 4) ⟨(4 * r.val + t.val) % 4, _⟩ = edgeOf r.val t % 523264
    rw [e1, e2, Nat.mod_eq_of_lt (edgeOf_lt _ hr' _)]
  · congr 2
    refine Fin.ext ?_
    show 4 * r.val + t.val = (4 * r.val + t.val) % 1044484
    omega

include hr hc in
/-- The reference's result, element by element. -/
theorem value : result x w bs rows cols = spec (F := Ideal) x w bs := by
  funext y
  obtain ⟨b, c, r, rfl⟩ : ∃ b c r, y = ix3 b c r := ⟨y 0, y 1, y 2, eq_ix3 y⟩
  have hbias : broadcastInDim S4x4x261121 ![0, 1, 2] bcast_S1x4x1_S4x4x261121_0_1_2 (broadcastInDim S1x4x1 ![1] bcast_S4_S1x4x1_1 bs) (ix3 b c r)
      = bias (F := Ideal) bs c.val := by
    refine (bcast_apply _ _ _ (ix3 b c r) (ix3 0 c 0) fun k => ?_).trans (bcast_apply _ _ _ (ix3 0 c 0) (ix1 ⟨c.val % 4, Nat.mod_lt _ (by decide)⟩) fun k => ?_)
    · match k with
      | ⟨0, _⟩ => exact (if_pos rfl).symm
      | ⟨1, _⟩ => exact (if_neg (show ¬ (4 : ℕ) = 1 by decide)).symm
      | ⟨2, _⟩ => exact (if_pos rfl).symm
    · obtain rfl : k = 0 := Subsingleton.elim _ _
      exact (Nat.mod_eq_of_lt c.isLt).trans (if_neg (show ¬ (4 : ℕ) = 1 by decide)).symm
  show (Ideal.hostScatterAdd scatter_S4x4x261121_S1044484x1_S4x4x1044484_01_2_2_1
      (broadcastInDim S4x4x261121 ![] bcast_S_S4x4x261121 (constant (F := Ideal) S_ .f32 0x00000000#32)) (wrap 261121#32 rows) (products x w cols) (ix3 b c r) : EReal)
    + broadcastInDim S4x4x261121 _ _ _ (ix3 b c r) = _
  rw [hbias]
  unfold Ideal.hostScatterAdd
  rw [landing rows hr b c r, Finset.sum_map]
  have hz : (broadcastInDim S4x4x261121 ![] bcast_S_S4x4x261121 (constant (F := Ideal) S_ .f32 0x00000000#32) (ix3 b c r) : EReal) = 0 := Ideal.ofBits_zero_f32
  rw [hz, zero_add, Fin.sum_univ_four]
  show products x w cols (place b c r 0) + products x w cols (place b c r 1) + products x w cols (place b c r 2) + products x w cols (place b c r 3) + _ = _
  simp only [products_place x w cols hc]
  show _ = bias (F := Ideal) bs c.val + term (F := Ideal) x w b.val c.val r.val 0 + term (F := Ideal) x w b.val c.val r.val 1
    + term (F := Ideal) x w b.val c.val r.val 2 + term (F := Ideal) x w b.val c.val r.val 3
  rw [add_comm _ (bias (F := Ideal) bs c.val), ← add_assoc, ← add_assoc, ← add_assoc]

end Value

end Cert.Proof.Ref

end
-- ==== Proof.lean ====
/-
  The proof of `Cert.Claim`: the frames, the idealization and the value claim, from the kernel program's run
  (Proof/Value.lean), the reference's run (generated) and its result (Proof/Ref.lean), and the precondition's reading
  (Proof/Pre.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_fixed_indices
public import proofs.«01_k».proof.Proof.Value
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.ValueIdx

/-- The kernel program at the words: it terminates, its arguments and semaphores end as they were. -/
theorem frame_kernel : Cert.quiescent_Kernel := fun m ρ _ =>
  (θ_run Cert.KernelIdeal.defs _ _).mono (fun _ h => ⟨fun c => (h.1 c).2, h.2⟩) (Value.run_spec (F := Bits) m ρ)

/-- The same at the extended reals. -/
theorem frame_ideal : Cert.quiescent_KernelIdeal := fun m ρ _ =>
  (θ_run Cert.KernelIdeal.defs _ _).mono (fun _ h => ⟨fun c => (h.1 c).2, h.2⟩) (Value.run_spec (F := Ideal) m ρ)

/-- The reference at the extended reals: its run is the generated one, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the extended reals, on the index arrays that the problem builds, the kernel program and the reference end with the
    same result, `Spec.spec` of the arguments. -/
theorem algebraic : Cert.algebraic_KernelIdeal_ReferenceIdeal_pre_fixed_indices := by
  intro m ρ m' ρ' hpre hargs
  refine ⟨fun c => Spec.spec (F := Ideal) (Value.X m c) (Value.Wt m c) (Value.Bs m c), ?_, ?_⟩
  · exact (θ_run Cert.KernelIdeal.defs _ _).mono (fun _ h => h.1) (Value.run_spec (F := Ideal) m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4⟩ := hargs c
    rw [e0, e1, e2, e3, e4]
    have hi := fun (n : ℕ) (hn : n < 1044484) => Pre.indices (F := Ideal) (ix1 ⟨n, hn⟩) _ _ _ _ _ (hpre c) n rfl
    exact Ref.value (Value.X m c) (Value.Wt m c) (Value.Bs m c) _ _ (fun n hn => (hi n hn).1) (fun n hn => (hi n hn).2)

/-- Every claim. -/
theorem claim : Cert.Claim := ⟨Cert.Kernel.Gen.facts, Cert.KernelIdeal.Gen.facts, Cert.ReferenceIdeal.Gen.facts, Cert.Pre_fixed_indices.Gen.facts,
  frame_kernel, frame_ideal, fun m ρ _ => frame_ideal m ρ trivial, frame_reference, fun m ρ _ => frame_reference m ρ trivial, trivial, algebraic⟩

end Cert.Proof

end
